-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_step_nonzero [hPre_step_nonzero : Cert.Pre_step_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_step_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_step_nonzero [hPre_step_nonzero : Cert.Pre_step_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_step_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_step_nonzero [hKernelIdeal : Cert.KernelIdeal.Facts] [hPre_step_nonzero : Cert.Pre_step_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_step_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_step_nonzero [hReferenceIdeal : Cert.ReferenceIdeal.Facts] [hPre_step_nonzero : Cert.Pre_step_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_step_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_step_nonzero [hKernelIdeal : Cert.KernelIdeal.Facts] [hReferenceIdeal : Cert.ReferenceIdeal.Facts] [hPre_step_nonzero : Cert.Pre_step_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_step_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v62_1)) (v2 : (c : Dev Cert.KernelIdeal.nD) → Buf (Elt Ideal) ((c.tc : Thread Cert.KernelIdeal.nD Cert.KernelIdeal.τ).loc Cert.KernelIdeal.main_v62_2)) (v3 : (c : Dev Cert.KernelIdeal.nD) → Buf (Elt Ideal) ((c.tc : Thread Cert.KernelIdeal.nD Cert.KernelIdeal.τ).loc Cert.KernelIdeal.main_v62_3)) (v4 : (c : Dev Cert.KernelIdeal.nD) → Buf (Elt Ideal) ((c.tc : Thread Cert.KernelIdeal.nD Cert.KernelIdeal.τ).loc Cert.KernelIdeal.main_v62_4)) (v5 : (c : Dev Cert.KernelIdeal.nD) → Buf (Elt Ideal) ((c.tc : Thread Cert.KernelIdeal.nD Cert.KernelIdeal.τ).loc Cert.KernelIdeal.main_v42)) (v6 : (c : Dev Cert.KernelIdeal.nD) → Buf (Elt Ideal) ((c.tc : Thread Cert.KernelIdeal.nD Cert.KernelIdeal.τ).loc Cert.KernelIdeal.main_v62_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v62_1) = v1 c
          ∧ r.2.mem ((c.tc : Thread Cert.KernelIdeal.nD Cert.KernelIdeal.τ).loc Cert.KernelIdeal.main_v62_2) = v2 c
          ∧ r.2.mem ((c.tc : Thread Cert.KernelIdeal.nD Cert.KernelIdeal.τ).loc Cert.KernelIdeal.main_v62_3) = v3 c
          ∧ r.2.mem ((c.tc : Thread Cert.KernelIdeal.nD Cert.KernelIdeal.τ).loc Cert.KernelIdeal.main_v62_4) = v4 c
          ∧ r.2.mem ((c.tc : Thread Cert.KernelIdeal.nD Cert.KernelIdeal.τ).loc Cert.KernelIdeal.main_v42) = v5 c
          ∧ r.2.mem ((c.tc : Thread Cert.KernelIdeal.nD Cert.KernelIdeal.τ).loc Cert.KernelIdeal.main_v62_5) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_v72) = v4 c
          ∧ r.2.mem ((c.tc : Thread Cert.ReferenceIdeal.nD Cert.ReferenceIdeal.τ).loc Cert.ReferenceIdeal.main_v64) = v5 c
          ∧ r.2.mem ((c.tc : Thread Cert.ReferenceIdeal.nD Cert.ReferenceIdeal.τ).loc Cert.ReferenceIdeal.main_v73) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_step_nonzero : Cert.Pre_step_nonzero.Facts),
    quiescent_Kernel (hKernel := hKernel)
    ∧ quiescent_KernelIdeal (hKernelIdeal := hKernelIdeal)
    ∧ quiescent_KernelIdeal_pre_step_nonzero (hKernelIdeal := hKernelIdeal) (hPre_step_nonzero := hPre_step_nonzero)
    ∧ quiescent_ReferenceIdeal (hReferenceIdeal := hReferenceIdeal)
    ∧ quiescent_ReferenceIdeal_pre_step_nonzero (hReferenceIdeal := hReferenceIdeal) (hPre_step_nonzero := hPre_step_nonzero)
    ∧ preserves_Kernel_KernelIdeal
    ∧ algebraic_KernelIdeal_ReferenceIdeal_pre_step_nonzero (hKernelIdeal := hKernelIdeal) (hReferenceIdeal := hReferenceIdeal) (hPre_step_nonzero := hPre_step_nonzero)
-- ==== Pre_step_nonzero.lean ====
abbrev S3x2560x6144 : Shape := ⟨3, ![3, 2560, 6144]⟩
abbrev S3 : Shape := ⟨1, ![3]⟩
abbrev S_ : Shape := ⟨0, ![]⟩

class Facts : Prop where
  bcast_S_S3 : S_.BroadcastsInDim S3 (![] : Fin 0 → Fin S3.rank)
  reducesTo_S3_S_d0 : S3.ReducesTo [0] S_
  h_S_ : 0 < S_.numel

variable [Facts]

def fn {F : FTy → Type} [FloatOps F] (main_arg0 : FVec F S3x2560x6144 .f32) (main_arg1 : FVec F S3x2560x6144 .bf16) (main_arg2 : FVec F S3x2560x6144 .f32) (main_arg3 : FVec F S3x2560x6144 .f32) (main_arg4 : FVec F S3 .f32) (main_arg5 : IVec S3 32) (main_arg6 : FVec F S3 .f32) : IVec S_ 1 :=
  let main_c : IVec S_ 32 := constantI S_ 32 0#32
  let main_v0 : IVec S3 32 := broadcastInDim S3 ![] bcast_S_S3 main_c
  let main_v1 : IVec S3 1 := cmpi .ne main_arg5 main_v0
  let main_c_0 : IVec S_ 1 := constantI S_ 1 1#1
  let main_v2 : IVec S_ 1 := (fun x v => Host.reduce IntOp.andi x v reducesTo_S3_S_d0 h_S_) main_v1 main_c_0
  main_v2
-- ==== Kernel.lean ====
abbrev S3x2560x6144 : Shape := ⟨3, ![3, 2560, 6144]⟩
abbrev S3 : Shape := ⟨1, ![3]⟩
abbrev S_ : Shape := ⟨0, ![]⟩
abbrev S246 : Shape := ⟨1, ![246]⟩
abbrev S1x246 : Shape := ⟨2, ![1, 246]⟩
abbrev S3x1 : Shape := ⟨2, ![3, 1]⟩
abbrev S3x246 : Shape := ⟨2, ![3, 246]⟩
abbrev S1x3 : Shape := ⟨2, ![1, 3]⟩
abbrev S4x3 : Shape := ⟨2, ![4, 3]⟩
abbrev S3x6144x2560 : Shape := ⟨3, ![3, 6144, 2560]⟩
abbrev S1x128x6144 : Shape := ⟨3, ![1, 128, 6144]⟩
abbrev S1x6144x128 : Shape := ⟨3, ![1, 6144, 128]⟩
abbrev S8x128 : Shape := ⟨2, ![8, 128]⟩
abbrev S1x1 : Shape := ⟨2, ![1, 1]⟩
abbrev S1x128x128 : Shape := ⟨3, ![1, 128, 128]⟩
abbrev S128x128 : Shape := ⟨2, ![128, 128]⟩
abbrev S16x8x128 : Shape := ⟨3, ![16, 8, 128]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 101
  | .vmem => 19
  | .smem => 2
  | _ => 0

abbrev bufTy : (tb : Table) → Fin (tcTables nBuf tb) → BufTy
  | .hbm, ⟨0, _⟩ => ⟨S3x2560x6144, .f32⟩
  | .hbm, ⟨1, _⟩ => ⟨S3x2560x6144, .bf16⟩
  | .hbm, ⟨2, _⟩ => ⟨S3x2560x6144, .f32⟩
  | .hbm, ⟨3, _⟩ => ⟨S3x2560x6144, .f32⟩
  | .hbm, ⟨4, _⟩ => ⟨S3, .f32⟩
  | .hbm, ⟨5, _⟩ => ⟨S3, .i32⟩
  | .hbm, ⟨6, _⟩ => ⟨S3, .f32⟩
  | .hbm, ⟨7, _⟩ => ⟨S3, .f32⟩
  | .hbm, ⟨8, _⟩ => ⟨S_, .f32⟩
  | .hbm, ⟨9, _⟩ => ⟨S3, .f32⟩
  | .hbm, ⟨10, _⟩ => ⟨S3, .f32⟩
  | .hbm, ⟨11, _⟩ => ⟨S_, .f32⟩
  | .hbm, ⟨12, _⟩ => ⟨S3, .f32⟩
  | .hbm, ⟨13, _⟩ => ⟨S3, .f32⟩
  | .hbm, ⟨14, _⟩ => ⟨S_, .f32⟩
  | .hbm, ⟨15, _⟩ => ⟨S3, .f32⟩
  | .hbm, ⟨16, _⟩ => ⟨S3, .f32⟩
  | .hbm, ⟨17, _⟩ => ⟨S_, .f32⟩
  | .hbm, ⟨18, _⟩ => ⟨S3, .f32⟩
  | .hbm, ⟨19, _⟩ => ⟨S3, .f32⟩
  | .hbm, ⟨20, _⟩ => ⟨S_, .f32⟩
  | .hbm, ⟨21, _⟩ => ⟨S3, .f32⟩
  | .hbm, ⟨22, _⟩ => ⟨S3, .f32⟩
  | .hbm, ⟨23, _⟩ => ⟨S3, .f32⟩
  | .hbm, ⟨24, _⟩ => ⟨S246, .i32⟩
  | .hbm, ⟨25, _⟩ => ⟨S_, .i32⟩
  | .hbm, ⟨26, _⟩ => ⟨S246, .i32⟩
  | .hbm, ⟨27, _⟩ => ⟨S246, .i32⟩
  | .hbm, ⟨28, _⟩ => ⟨S_, .i32⟩
  | .hbm, ⟨29, _⟩ => ⟨S246, .i32⟩
  | .hbm, ⟨30, _⟩ => ⟨S246, .i32⟩
  | .hbm, ⟨31, _⟩ => ⟨S_, .i32⟩
  | .hbm, ⟨32, _⟩ => ⟨S246, .i32⟩
  | .hbm, ⟨33, _⟩ => ⟨S246, .i32⟩
  | .hbm, ⟨34, _⟩ => ⟨S246, .f32⟩
  | .hbm, ⟨35, _⟩ => ⟨S1x246, .f32⟩
  | .hbm, ⟨36, _⟩ => ⟨S3x1, .f32⟩
  | .hbm, ⟨37, _⟩ => ⟨S3x246, .f32⟩
  | .hbm, ⟨38, _⟩ => ⟨S3x246, .f32⟩
  | .hbm, ⟨39, _⟩ => ⟨S3x246, .i1⟩
  | .hbm, ⟨40, _⟩ => ⟨S3x246, .i32⟩
  | .hbm, ⟨41, _⟩ => ⟨S_, .i32⟩
  | .hbm, ⟨42, _⟩ => ⟨S3, .i32⟩
  | .hbm, ⟨43, _⟩ => ⟨S_, .i32⟩
  | .hbm, ⟨44, _⟩ => ⟨S3, .i32⟩
  | .hbm, ⟨45, _⟩ => ⟨S3, .i1⟩
  | .hbm, ⟨46, _⟩ => ⟨S_, .f32⟩
  | .hbm, ⟨47, _⟩ => ⟨S3, .f32⟩
  | .hbm, ⟨48, _⟩ => ⟨S3, .i1⟩
  | .hbm, ⟨49, _⟩ => ⟨S3, .i1⟩
  | .hbm, ⟨50, _⟩ => ⟨S_, .i32⟩
  | .hbm, ⟨51, _⟩ => ⟨S3, .i32⟩
  | .hbm, ⟨52, _⟩ => ⟨S3, .i32⟩
  | .hbm, ⟨53, _⟩ => ⟨S_, .i32⟩
  | .hbm, ⟨54, _⟩ => ⟨S_, .i32⟩
  | .hbm, ⟨55, _⟩ => ⟨S3, .i32⟩
  | .hbm, ⟨56, _⟩ => ⟨S3, .i32⟩
  | .hbm, ⟨57, _⟩ => ⟨S_, .f32⟩
  | .hbm, ⟨58, _⟩ => ⟨S3, .f32⟩
  | .hbm, ⟨59, _⟩ => ⟨S3, .i1⟩
  | .hbm, ⟨60, _⟩ => ⟨S_, .i32⟩
  | .hbm, ⟨61, _⟩ => ⟨S_, .i32⟩
  | .hbm, ⟨62, _⟩ => ⟨S3, .i32⟩
  | .hbm, ⟨63, _⟩ => ⟨S3, .i32⟩
  | .hbm, ⟨64, _⟩ => ⟨S_, .i32⟩
  | .hbm, ⟨65, _⟩ => ⟨S3, .i32⟩
  | .hbm, ⟨66, _⟩ => ⟨S3, .i32⟩
  | .hbm, ⟨67, _⟩ => ⟨S_, .i32⟩
  | .hbm, ⟨68, _⟩ => ⟨S3, .i32⟩
  | .hbm, ⟨69, _⟩ => ⟨S3, .i32⟩
  | .hbm, ⟨70, _⟩ => ⟨S3, .f32⟩
  | .hbm, ⟨71, _⟩ => ⟨S3, .i32⟩
  | .hbm, ⟨72, _⟩ => ⟨S_, .i32⟩
  | .hbm, ⟨73, _⟩ => ⟨S3, .i32⟩
  | .hbm, ⟨74, _⟩ => ⟨S3, .i32⟩
  | .hbm, ⟨75, _⟩ => ⟨S_, .i32⟩
  | .hbm, ⟨76, _⟩ => ⟨S3, .i32⟩
  | .hbm, ⟨77, _⟩ => ⟨S3, .i32⟩
  | .hbm, ⟨78, _⟩ => ⟨S3, .f32⟩
  | .hbm, ⟨79, _⟩ => ⟨S_, .f32⟩
  | .hbm, ⟨80, _⟩ => ⟨S3, .f32⟩
  | .hbm, ⟨81, _⟩ => ⟨S3, .f32⟩
  | .hbm, ⟨82, _⟩ => ⟨S_, .f32⟩
  | .hbm, ⟨83, _⟩ => ⟨S3, .f32⟩
  | .hbm, ⟨84, _⟩ => ⟨S3, .f32⟩
  | .hbm, ⟨85, _⟩ => ⟨S3, .f32⟩
  | .hbm, ⟨86, _⟩ => ⟨S3, .f32⟩
  | .hbm, ⟨87, _⟩ => ⟨S_, .f32⟩
  | .hbm, ⟨88, _⟩ => ⟨S3, .f32⟩
  | .hbm, ⟨89, _⟩ => ⟨S3, .f32⟩
  | .hbm, ⟨90, _⟩ => ⟨S1x3, .f32⟩
  | .hbm, ⟨91, _⟩ => ⟨S1x3, .f32⟩
  | .hbm, ⟨92, _⟩ => ⟨S1x3, .f32⟩
  | .hbm, ⟨93, _⟩ => ⟨S1x3, .f32⟩
  | .hbm, ⟨94, _⟩ => ⟨S4x3, .f32⟩
  | .hbm, ⟨95, _⟩ => ⟨S3x2560x6144, .f32⟩
  | .hbm, ⟨96, _⟩ => ⟨S3x2560x6144, .f32⟩
  | .hbm, ⟨97, _⟩ => ⟨S3x2560x6144, .f32⟩
  | .hbm, ⟨98, _⟩ => ⟨S3, .f32⟩
  | .hbm, ⟨99, _⟩ => ⟨S3x2560x6144, .fp8e4m3⟩
  | .hbm, ⟨100, _⟩ => ⟨S3x6144x2560, .fp8e4m3⟩
  | .local _ .vmem, ⟨0, _⟩ => ⟨S1x128x6144, .f32⟩
  | .local _ .vmem, ⟨1, _⟩ => ⟨S1x128x6144, .f32⟩
  | .local _ .vmem, ⟨2, _⟩ => ⟨S1x128x6144, .bf16⟩
  | .local _ .vmem, ⟨3, _⟩ => ⟨S1x128x6144, .bf16⟩
  | .local _ .vmem, ⟨4, _⟩ => ⟨S1x128x6144, .f32⟩
  | .local _ .vmem, ⟨5, _⟩ => ⟨S1x128x6144, .f32⟩
  | .local _ .vmem, ⟨6, _⟩ => ⟨S1x128x6144, .f32⟩
  | .local _ .vmem, ⟨7, _⟩ => ⟨S1x128x6144, .f32⟩
  | .local _ .vmem, ⟨8, _⟩ => ⟨S1x128x6144, .f32⟩
  | .local _ .vmem, ⟨9, _⟩ => ⟨S1x128x6144, .f32⟩
  | .local _ .vmem, ⟨10, _⟩ => ⟨S1x128x6144, .f32⟩
  | .local _ .vmem, ⟨11, _⟩ => ⟨S1x128x6144, .f32⟩
  | .local _ .vmem, ⟨12, _⟩ => ⟨S1x128x6144, .f32⟩
  | .local _ .vmem, ⟨13, _⟩ => ⟨S1x128x6144, .f32⟩
  | .local _ .vmem, ⟨14, _⟩ => ⟨S1x128x6144, .fp8e4m3⟩
  | .local _ .vmem, ⟨15, _⟩ => ⟨S1x128x6144, .fp8e4m3⟩
  | .local _ .vmem, ⟨16, _⟩ => ⟨S1x6144x128, .fp8e4m3⟩
  | .local _ .vmem, ⟨17, _⟩ => ⟨S1x6144x128, .fp8e4m3⟩
  | .local _ .vmem, ⟨18, _⟩ => ⟨S8x128, .f32⟩
  | .local _ .smem, ⟨0, _⟩ => ⟨S4x3, .f32⟩
  | .local _ .smem, ⟨1, _⟩ => ⟨S3, .f32⟩
  | _, _ => ⟨S3x2560x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_9 : Ref sig .tc := ⟨.hbm, 50, rfl⟩
abbrev main_v32 : Ref sig .tc := ⟨.hbm, 51, rfl⟩
abbrev main_v33 : Ref sig .tc := ⟨.hbm, 52, rfl⟩
abbrev main_c_10 : Ref sig .tc := ⟨.hbm, 53, rfl⟩
abbrev main_call0_v0 : Ref sig .tc := ⟨.hbm, 54, rfl⟩
abbrev main_call0_v1 : Ref sig .tc := ⟨.hbm, 55, rfl⟩
abbrev main_v34 : Ref sig .tc := ⟨.hbm, 56, rfl⟩
abbrev main_cst_11 : Ref sig .tc := ⟨.hbm, 57, rfl⟩
abbrev main_v35 : Ref sig .tc := ⟨.hbm, 58, rfl⟩
abbrev main_v36 : Ref sig .tc := ⟨.hbm, 59, rfl⟩
abbrev main_c_12 : Ref sig .tc := ⟨.hbm, 60, rfl⟩
abbrev main_call1_v0 : Ref sig .tc := ⟨.hbm, 61, rfl⟩
abbrev main_call1_v1 : Ref sig .tc := ⟨.hbm, 62, rfl⟩
abbrev main_v37 : Ref sig .tc := ⟨.hbm, 63, rfl⟩
abbrev main_c_13 : Ref sig .tc := ⟨.hbm, 64, rfl⟩
abbrev main_v38 : Ref sig .tc := ⟨.hbm, 65, rfl⟩
abbrev main_v39 : Ref sig .tc := ⟨.hbm, 66, rfl⟩
abbrev main_c_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_15 : Ref sig .tc := ⟨.hbm, 72, rfl⟩
abbrev main_v44 : Ref sig .tc := ⟨.hbm, 73, rfl⟩
abbrev main_v45 : Ref sig .tc := ⟨.hbm, 74, rfl⟩
abbrev main_c_16 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_17 : Ref sig .tc := ⟨.hbm, 79, rfl⟩
abbrev main_v49 : Ref sig .tc := ⟨.hbm, 80, rfl⟩
abbrev main_v50 : Ref sig .tc := ⟨.hbm, 81, rfl⟩
abbrev main_cst_18 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_19 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62_0 : Ref sig .tc := ⟨.hbm, 95, rfl⟩
abbrev main_v62_1 : Ref sig .tc := ⟨.hbm, 96, rfl⟩
abbrev main_v62_2 : Ref sig .tc := ⟨.hbm, 97, rfl⟩
abbrev main_v62_3 : Ref sig .tc := ⟨.hbm, 98, rfl⟩
abbrev main_v62_4 : Ref sig .tc := ⟨.hbm, 99, rfl⟩
abbrev main_v62_5 : Ref sig .tc := ⟨.hbm, 100, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_stg0_0 : Ref sig .tc := ⟨.smem, 0, rfl⟩
abbrev cc0_stg8_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![3, 20], ![false, false]⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c1 : Index := 1#32
  let arg0 : BitVec 32 := BitVec.ofNat 32 (i 0).val
  let v2 : Index := Scalar.indexCast arg0
  ![1, v2.toNat]
def k0_off3 (i : grid0.Coords) : Fin 2 → Nat :=
  let c2 : Index := 2#32
  let arg0 : BitVec 32 := BitVec.ofNat 32 (i 0).val
  let v4 : Index := Scalar.indexCast arg0
  ![2, v4.toNat]
def k0_off4 (i : grid0.Coords) : Fin 2 → Nat :=
  let c3 : Index := 3#32
  let arg0 : BitVec 32 := BitVec.ofNat 32 (i 0).val
  let v6 : Index := Scalar.indexCast arg0
  ![3, v6.toNat]
@[reducible] def k0_t1_loop : Scf.Loop 32 :=
  let c0_i32_3 : BitVec 32 := 0#32
  let c48_i32 : BitVec 32 := 48#32
  let v12 : BitVec 32 := Scalar.addi c0_i32_3 c48_i32
  let c1_i32 : BitVec 32 := 1#32
  ⟨c0_i32_3, v12, c1_i32⟩
def k0_mult1 (k0_t1 : Fin k0_t1_loop.trips) : BitVec 32 :=
  let c0_i32_3 : BitVec 32 := 0#32
  let c1_i32 : BitVec 32 := 1#32
  let arg14 : BitVec 32 := Scf.iv c0_i32_3 c1_i32 k0_t1
  let c128_i32 : BitVec 32 := 128#32
  let v20 : BitVec 32 := Scalar.muli arg14 c128_i32
  v20
def k0_off5 (k0_t1 : Fin k0_t1_loop.trips) : Fin 3 → Nat :=
  let c0_8 : Index := 0#32
  let c0_9 : Index := 0#32
  let c0_i32_3 : BitVec 32 := 0#32
  let c1_i32 : BitVec 32 := 1#32
  let arg14 : BitVec 32 := Scf.iv c0_i32_3 c1_i32 k0_t1
  let c128_i32 : BitVec 32 := 128#32
  let v20 : BitVec 32 := Scalar.muli arg14 c128_i32
  let v21 : BitVec 32 := v20
  let v22 : Index := Scalar.indexCast v21
  ![0, 0, v22.toNat]
def k0_off6 (k0_t1 : Fin k0_t1_loop.trips) : Fin 3 → Nat :=
  let c0_30 : Index := 0#32
  let c0_i32_3 : BitVec 32 := 0#32
  let c1_i32 : BitVec 32 := 1#32
  let arg14 : BitVec 32 := Scf.iv c0_i32_3 c1_i32 k0_t1
  let c128_i32 : BitVec 32 := 128#32
  let v20 : BitVec 32 := Scalar.muli arg14 c128_i32
  let v21 : BitVec 32 := v20
  let v81 : Index := Scalar.indexCast v21
  let c0_31 : Index := 0#32
  ![0, v81.toNat, 0]
def k0_cond2 (i : grid0.Coords) : BitVec 1 :=
  let arg1 : BitVec 32 := BitVec.ofNat 32 (i 1).val
  let c19_i32 : BitVec 32 := 19#32
  let v17 : BitVec 1 := Scalar.cmpi .eq arg1 c19_i32
  let v18 : BitVec 32 := Scalar.extui v17
  let c0_i32_7 : BitVec 32 := 0#32
  let v19 : BitVec 1 := Scalar.cmpi .ne v18 c0_i32_7
  v19

def k0_off7 (i : grid0.Coords) : Fin 1 → Nat :=
  let arg0 : BitVec 32 := BitVec.ofNat 32 (i 0).val
  let v25 : Index := Scalar.indexCast arg0
  ![v25.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S4x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x6144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .smem S3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x6144 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x6144x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S3x2560x6144 : Shape := ⟨3, ![3, 2560, 6144]⟩
abbrev S3 : Shape := ⟨1, ![3]⟩
abbrev S_ : Shape := ⟨0, ![]⟩
abbrev S3x1x1 : Shape := ⟨3, ![3, 1, 1]⟩
abbrev S3x6144x2560 : Shape := ⟨3, ![3, 6144, 2560]⟩

abbrev nBuf : Space → Nat
  | .hbm => 114
  | .vmem => 0
  | .smem => 0
  | _ => 0

abbrev bufTy : (tb : Table) → Fin (tcTables nBuf tb) → BufTy
  | .hbm, ⟨0, _⟩ => ⟨S3x2560x6144, .f32⟩
  | .hbm, ⟨1, _⟩ => ⟨S3x2560x6144, .bf16⟩
  | .hbm, ⟨2, _⟩ => ⟨S3x2560x6144, .f32⟩
  | .hbm, ⟨3, _⟩ => ⟨S3x2560x6144, .f32⟩
  | .hbm, ⟨4, _⟩ => ⟨S3, .f32⟩
  | .hbm, ⟨5, _⟩ => ⟨S3, .i32⟩
  | .hbm, ⟨6, _⟩ => ⟨S3, .f32⟩
  | .hbm, ⟨7, _⟩ => ⟨S3x2560x6144, .f32⟩
  | .hbm, ⟨8, _⟩ => ⟨S_, .f32⟩
  | .hbm, ⟨9, _⟩ => ⟨S3x2560x6144, .f32⟩
  | .hbm, ⟨10, _⟩ => ⟨S3x2560x6144, .f32⟩
  | .hbm, ⟨11, _⟩ => ⟨S_, .f32⟩
  | .hbm, ⟨12, _⟩ => ⟨S3x2560x6144, .f32⟩
  | .hbm, ⟨13, _⟩ => ⟨S3x2560x6144, .f32⟩
  | .hbm, ⟨14, _⟩ => ⟨S3x2560x6144, .f32⟩
  | .hbm, ⟨15, _⟩ => ⟨S_, .f32⟩
  | .hbm, ⟨16, _⟩ => ⟨S3x2560x6144, .f32⟩
  | .hbm, ⟨17, _⟩ => ⟨S3x2560x6144, .f32⟩
  | .hbm, ⟨18, _⟩ => ⟨S_, .f32⟩
  | .hbm, ⟨19, _⟩ => ⟨S3x2560x6144, .f32⟩
  | .hbm, ⟨20, _⟩ => ⟨S3x2560x6144, .f32⟩
  | .hbm, ⟨21, _⟩ => ⟨S3x2560x6144, .f32⟩
  | .hbm, ⟨22, _⟩ => ⟨S3x2560x6144, .f32⟩
  | .hbm, ⟨23, _⟩ => ⟨S3, .f32⟩
  | .hbm, ⟨24, _⟩ => ⟨S_, .f32⟩
  | .hbm, ⟨25, _⟩ => ⟨S3, .f32⟩
  | .hbm, ⟨26, _⟩ => ⟨S3, .f32⟩
  | .hbm, ⟨27, _⟩ => ⟨S_, .f32⟩
  | .hbm, ⟨28, _⟩ => ⟨S3, .f32⟩
  | .hbm, ⟨29, _⟩ => ⟨S3, .f32⟩
  | .hbm, ⟨30, _⟩ => ⟨S_, .f32⟩
  | .hbm, ⟨31, _⟩ => ⟨S3, .f32⟩
  | .hbm, ⟨32, _⟩ => ⟨S3, .f32⟩
  | .hbm, ⟨33, _⟩ => ⟨S_, .f32⟩
  | .hbm, ⟨34, _⟩ => ⟨S3, .f32⟩
  | .hbm, ⟨35, _⟩ => ⟨S3, .f32⟩
  | .hbm, ⟨36, _⟩ => ⟨S3, .f32⟩
  | .hbm, ⟨37, _⟩ => ⟨S3x2560x6144, .f32⟩
  | .hbm, ⟨38, _⟩ => ⟨S3, .f32⟩
  | .hbm, ⟨39, _⟩ => ⟨S3x1x1, .f32⟩
  | .hbm, ⟨40, _⟩ => ⟨S3x2560x6144, .f32⟩
  | .hbm, ⟨41, _⟩ => ⟨S3x2560x6144, .f32⟩
  | .hbm, ⟨42, _⟩ => ⟨S_, .f32⟩
  | .hbm, ⟨43, _⟩ => ⟨S3x2560x6144, .f32⟩
  | .hbm, ⟨44, _⟩ => ⟨S3x2560x6144, .f32⟩
  | .hbm, ⟨45, _⟩ => ⟨S_, .f32⟩
  | .hbm, ⟨46, _⟩ => ⟨S3, .f32⟩
  | .hbm, ⟨47, _⟩ => ⟨S3, .f32⟩
  | .hbm, ⟨48, _⟩ => ⟨S_, .f32⟩
  | .hbm, ⟨49, _⟩ => ⟨S3, .f32⟩
  | .hbm, ⟨50, _⟩ => ⟨S3, .f32⟩
  | .hbm, ⟨51, _⟩ => ⟨S3x1x1, .f32⟩
  | .hbm, ⟨52, _⟩ => ⟨S3x2560x6144, .f32⟩
  | .hbm, ⟨53, _⟩ => ⟨S3x2560x6144, .f32⟩
  | .hbm, ⟨54, _⟩ => ⟨S3x1x1, .f32⟩
  | .hbm, ⟨55, _⟩ => ⟨S3x2560x6144, .f32⟩
  | .hbm, ⟨56, _⟩ => ⟨S3x2560x6144, .f32⟩
  | .hbm, ⟨57, _⟩ => ⟨S3x2560x6144, .f32⟩
  | .hbm, ⟨58, _⟩ => ⟨S3x2560x6144, .f32⟩
  | .hbm, ⟨59, _⟩ => ⟨S3x2560x6144, .f32⟩
  | .hbm, ⟨60, _⟩ => ⟨S_, .f32⟩
  | .hbm, ⟨61, _⟩ => ⟨S3, .f32⟩
  | .hbm, ⟨62, _⟩ => ⟨S_, .f32⟩
  | .hbm, ⟨63, _⟩ => ⟨S3, .f32⟩
  | .hbm, ⟨64, _⟩ => ⟨S3, .f32⟩
  | .hbm, ⟨65, _⟩ => ⟨S3, .f32⟩
  | .hbm, ⟨66, _⟩ => ⟨S_, .f32⟩
  | .hbm, ⟨67, _⟩ => ⟨S3, .f32⟩
  | .hbm, ⟨68, _⟩ => ⟨S3, .i1⟩
  | .hbm, ⟨69, _⟩ => ⟨S_, .f32⟩
  | .hbm, ⟨70, _⟩ => ⟨S3, .f32⟩
  | .hbm, ⟨71, _⟩ => ⟨S3, .i1⟩
  | .hbm, ⟨72, _⟩ => ⟨S3, .i1⟩
  | .hbm, ⟨73, _⟩ => ⟨S3, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S3, .f32⟩
  | .hbm, ⟨78, _⟩ => ⟨S3, .f32⟩
  | .hbm, ⟨79, _⟩ => ⟨S3, .f32⟩
  | .hbm, ⟨80, _⟩ => ⟨S_, .f32⟩
  | .hbm, ⟨81, _⟩ => ⟨S3, .f32⟩
  | .hbm, ⟨82, _⟩ => ⟨S3, .f32⟩
  | .hbm, ⟨83, _⟩ => ⟨S_, .f32⟩
  | .hbm, ⟨84, _⟩ => ⟨S_, .f32⟩
  | .hbm, ⟨85, _⟩ => ⟨S3, .f32⟩
  | .hbm, ⟨86, _⟩ => ⟨S3, .f32⟩
  | .hbm, ⟨87, _⟩ => ⟨S_, .f32⟩
  | .hbm, ⟨88, _⟩ => ⟨S3, .f32⟩
  | .hbm, ⟨89, _⟩ => ⟨S3, .i1⟩
  | .hbm, ⟨90, _⟩ => ⟨S_, .f32⟩
  | .hbm, ⟨91, _⟩ => ⟨S_, .f32⟩
  | .hbm, ⟨92, _⟩ => ⟨S3, .f32⟩
  | .hbm, ⟨93, _⟩ => ⟨S3, .f32⟩
  | .hbm, ⟨94, _⟩ => ⟨S_, .f32⟩
  | .hbm, ⟨95, _⟩ => ⟨S3, .f32⟩
  | .hbm, ⟨96, _⟩ => ⟨S3, .f32⟩
  | .hbm, ⟨97, _⟩ => ⟨S3, .f32⟩
  | .hbm, ⟨98, _⟩ => ⟨S_, .f32⟩
  | .hbm, ⟨99, _⟩ => ⟨S3, .f32⟩
  | .hbm, ⟨100, _⟩ => ⟨S3, .f32⟩
  | .hbm, ⟨101, _⟩ => ⟨S3x1x1, .f32⟩
  | .hbm, ⟨102, _⟩ => ⟨S3x2560x6144, .f32⟩
  | .hbm, ⟨103, _⟩ => ⟨S3x2560x6144, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S3x2560x6144, .f32⟩
  | .hbm, ⟨108, _⟩ => ⟨S3x2560x6144, .f32⟩
  | .hbm, ⟨109, _⟩ => ⟨S_, .f32⟩
  | .hbm, ⟨110, _⟩ => ⟨S3x2560x6144, .f32⟩
  | .hbm, ⟨111, _⟩ => ⟨S3x2560x6144, .f32⟩
  | .hbm, ⟨112, _⟩ => ⟨S3x2560x6144, .fp8e4m3⟩
  | .hbm, ⟨113, _⟩ => ⟨S3x6144x2560, .fp8e4m3⟩
  | _, _ => ⟨S3x2560x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_cst_11 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_12 : Ref sig .tc := ⟨.hbm, 66, rfl⟩
abbrev main_v46 : Ref sig .tc := ⟨.hbm, 67, rfl⟩
abbrev main_v47 : Ref sig .tc := ⟨.hbm, 68, rfl⟩
abbrev main_cst_13 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_14 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_15 : Ref sig .tc := ⟨.hbm, 80, rfl⟩
abbrev main_v57 : Ref sig .tc := ⟨.hbm, 81, rfl⟩
abbrev main_v58 : Ref sig .tc := ⟨.hbm, 82, rfl⟩
abbrev main_cst_16 : Ref sig .tc := ⟨.hbm, 83, rfl⟩
abbrev main_call0_v0 : Ref sig .tc := ⟨.hbm, 84, rfl⟩
abbrev main_call0_v1 : Ref sig .tc := ⟨.hbm, 85, rfl⟩
abbrev main_v59 : Ref sig .tc := ⟨.hbm, 86, rfl⟩
abbrev main_cst_17 : Ref sig .tc := ⟨.hbm, 87, rfl⟩
abbrev main_v60 : Ref sig .tc := ⟨.hbm, 88, rfl⟩
abbrev main_v61 : Ref sig .tc := ⟨.hbm, 89, rfl⟩
abbrev main_cst_18 : Ref sig .tc := ⟨.hbm, 90, rfl⟩
abbrev main_call1_v0 : Ref sig .tc := ⟨.hbm, 91, rfl⟩
abbrev main_call1_v1 : Ref sig .tc := ⟨.hbm, 92, rfl⟩
abbrev main_v62 : Ref sig .tc := ⟨.hbm, 93, rfl⟩
abbrev main_cst_19 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_20 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_21 : Ref sig .tc := ⟨.hbm, 104, rfl⟩
abbrev main_cst_22 : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩

abbrev nD : Nat := 1
abbrev τ : Topo := Topo.v7x

variable {F : FTy → Type} [FloatOps F]
-- ==== Proof.KernelRuns.lean ====
/- What the three cases of the frame of the kernel at the machine's floats share: the host operations before the region, the
   blocks, the branch conditions, the staging buffers.
   Taken over from the frame certificate that the generator writes for this program when it stands alone. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-- No host operation of this list takes a fresh buffer. -/
theorem hostOps0_fresh : (hostOps0 : List (HloOp τ sig (Elt F))).Forall fun op => op.fresh = ∅ := by
  simp only [List.Forall]; repeat' constructor
/-- No host operation of this list takes a fresh buffer. -/
theorem hostOps0_1_fresh : (hostOps0_1 : List (HloOp τ sig (Elt F))).Forall fun op => op.fresh = ∅ := by
  simp only [List.Forall]; repeat' constructor
/-- No host operation of this list takes a fresh buffer. -/
theorem hostOps0_2_fresh : (hostOps0_2 : List (HloOp τ sig (Elt F))).Forall fun op => op.fresh = ∅ := by
  simp only [List.Forall]; repeat' constructor
/-- No host operation of this list takes a fresh buffer. -/
theorem hostOps0_3_fresh : (hostOps0_3 : List (HloOp τ sig (Elt F))).Forall fun op => op.fresh = ∅ := by
  simp only [List.Forall]; repeat' constructor
/-- No host operation of this list takes a fresh buffer. -/
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 1 rfl).trans ((hA c 1).trans (V_main_arg0 m c)),
      (Pipeline.RDat.FramePost.arr_in h c 2 rfl).trans ((hA c 2).trans (V_main_arg1 m c)),
      (Pipeline.RDat.FramePost.arr_in h c 3 rfl).trans ((hA c 3).trans (V_main_arg2 m c)),
      (Pipeline.RDat.FramePost.arr_in h c 4 rfl).trans ((hA c 4).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 20) — by arithmetic of the point. -/
theorem hcond0_0 : ∀ t : Fin cfg0.N, cond0_0 (grid0.coords t) ↔ t.val % 20 = 0 :=
  (fun t => by
    have ht : t.val < 60 := Nat.lt_of_lt_of_eq t.isLt N_0
    have e0 : (grid0.coords t 0).val = t.val / 20 % 3 := Pipeline.Grid.coords_val t 0 (by decide) rfl
    have e1 : (grid0.coords t 1).val = t.val / 1 % 20 := Pipeline.Grid.coords_val t 1 (by decide) rfl
    simp only [cond0_0, e0, e1]
    word_cmp
   : ∀ t : Fin grid0.N, cond0_0 (grid0.coords t) ↔ t.val % 20 = 0)

/-- The condition of the body's `scf.if` 1 (`k0_h2`), from the grid coordinates (the skeleton's scalar
    chain substituted). -/
abbrev cond0_1 (i : grid0.Coords) : Prop := k0_cond2 i = 1#1
/-- It holds at the points ≡ 19 (mod 20) — by arithmetic of the point. -/
theorem hcond0_1 : ∀ t : Fin cfg0.N, cond0_1 (grid0.coords t) ↔ t.val % 20 = 19 :=
  (fun t => by
    have ht : t.val < 60 := Nat.lt_of_lt_of_eq t.isLt N_0
    have e0 : (grid0.coords t 0).val = t.val / 20 % 3 := Pipeline.Grid.coords_val t 0 (by decide) rfl
    have e1 : (grid0.coords t 1).val = t.val / 1 % 20 := Pipeline.Grid.coords_val t 1 (by decide) rfl
    simp only [cond0_1, k0_cond2, e0, e1]
    word_cmp
   : ∀ t : Fin grid0.N, cond0_1 (grid0.coords t) ↔ t.val % 20 = 19)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S4x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x6144 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x6144 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x6144 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x6144 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x6144 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x6144 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x6144 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .smem S3 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128x6144 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x6144x128 .fp8e4m3 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S8x128 .f32 := Memref.whole cc0_scratch0
/-- The scratch `arg13` the kernel carries between points, as a view: what it holds is stated through it. -/
abbrev VS0_0 : View sig .tc .vmem S8x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Run

end
-- ==== Proof.KernelRunA.lean ====
/- The body run at the first point of a layer (frame only: nothing of the values is named but the scratch).
   Taken over from the frame certificate that the generator writes for this program when it stands alone. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 20, 40), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 7, 8, 9, 10) at anything, handed back at some contents nothing names. -/
noncomputable def kernelRun0_A (c : Dev nD) (i : grid0.Coords) (arg2 : Memref sig .tc .smem S4x3 .f32) (harg2 : arg2.IsWhole) (arg3 : Memref sig .tc .vmem S1x128x6144 .f32) (harg3 : arg3.IsWhole) (arg4 : Memref sig .tc .vmem S1x128x6144 .bf16) (harg4 : arg4.IsWhole) (arg5 : Memref sig .tc .vmem S1x128x6144 .f32) (harg5 : arg5.IsWhole) (arg6 : Memref sig .tc .vmem S1x128x6144 .f32) (harg6 : arg6.IsWhole) (arg7 : Memref sig .tc .vmem S1x128x6144 .f32) (harg7 : arg7.IsWhole) (arg8 : Memref sig .tc .vmem S1x128x6144 .f32) (harg8 : arg8.IsWhole) (arg9 : Memref sig .tc .vmem S1x128x6144 .f32) (harg9 : arg9.IsWhole) (arg10 : Memref sig .tc .smem S3 .f32) (harg10 : arg10.IsWhole) (arg11 : Memref sig .tc .vmem S1x128x6144 .fp8e4m3) (harg11 : arg11.IsWhole) (arg12 : Memref sig .tc .vmem S1x6144x128 .fp8e4m3) (harg12 : arg12.IsWhole) (arg13 : Memref sig .tc .vmem S8x128 .f32) (harg13 : arg13.IsWhole) (hc0 : cond0_0 i) (hc1 : ¬cond0_1 i)
    (x0 : Vec F S4x3 .f32) (x1 : Vec F S1x128x6144 .f32) (x2 : Vec F S1x128x6144 .bf16) (x3 : Vec F S1x128x6144 .f32) (x4 : Vec F S1x128x6144 .f32) :
    { LS0 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS0)) -∗ K ⟨⟩))
          ⊢ wp frame (wpE (defs₀ (F := F)) Variants.none c none) E (cc0_adamw_fp8 i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_adamw_fp8_eq_skeleton]; unfold cc0_adamw_fp8_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _; iexact HS0

end Cert.Kernel.Run

end
-- ==== Proof.KernelRunB.lean ====
/- The body run at a point that is neither the first nor the last of a layer.
   Taken over from the frame certificate that the generator writes for this program when it stands alone. -/
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 58: 54 of 60), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 7, 8, 9, 10) at anything, handed back at some contents nothing names. -/
noncomputable def kernelRun0_B (c : Dev nD) (i : grid0.Coords) (arg2 : Memref sig .tc .smem S4x3 .f32) (harg2 : arg2.IsWhole) (arg3 : Memref sig .tc .vmem S1x128x6144 .f32) (harg3 : arg3.IsWhole) (arg4 : Memref sig .tc .vmem S1x128x6144 .bf16) (harg4 : arg4.IsWhole) (arg5 : Memref sig .tc .vmem S1x128x6144 .f32) (harg5 : arg5.IsWhole) (arg6 : Memref sig .tc .vmem S1x128x6144 .f32) (harg6 : arg6.IsWhole) (arg7 : Memref sig .tc .vmem S1x128x6144 .f32) (harg7 : arg7.IsWhole) (arg8 : Memref sig .tc .vmem S1x128x6144 .f32) (harg8 : arg8.IsWhole) (arg9 : Memref sig .tc .vmem S1x128x6144 .f32) (harg9 : arg9.IsWhole) (arg10 : Memref sig .tc .smem S3 .f32) (harg10 : arg10.IsWhole) (arg11 : Memref sig .tc .vmem S1x128x6144 .fp8e4m3) (harg11 : arg11.IsWhole) (arg12 : Memref sig .tc .vmem S1x6144x128 .fp8e4m3) (harg12 : arg12.IsWhole) (arg13 : Memref sig .tc .vmem S8x128 .f32) (harg13 : arg13.IsWhole) (hc0 : ¬cond0_0 i) (hc1 : ¬cond0_1 i)
    (x0 : Vec F S4x3 .f32) (x1 : Vec F S1x128x6144 .f32) (x2 : Vec F S1x128x6144 .bf16) (x3 : Vec F S1x128x6144 .f32) (x4 : Vec F S1x128x6144 .f32) (xs0 : Vec F S8x128 .f32) :
    { LS0 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS0)) -∗ K ⟨⟩))
          ⊢ wp frame (wpE (defs₀ (F := F)) Variants.none c none) E (cc0_adamw_fp8 i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_adamw_fp8_eq_skeleton]; unfold cc0_adamw_fp8_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg13.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _; iexact HS0

end Cert.Kernel.Run

end
-- ==== Proof.KernelRunC.lean ====
/- The body run at the last point of a layer.
   Taken over from the frame certificate that the generator writes for this program when it stands alone. -/
module

public import proofs.«01_k».proof.Proof.KernelRunB

@[expose] public section

-- membership in a rectangle of production extents (`View.cover_of_tiled`): the elaborator's structural look
-- recurses once per coordinate of the long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 19, 39, 59), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 7, 8, 9, 10) at anything, handed back at some contents nothing names. -/
noncomputable def kernelRun0_C (c : Dev nD) (i : grid0.Coords) (arg2 : Memref sig .tc .smem S4x3 .f32) (harg2 : arg2.IsWhole) (arg3 : Memref sig .tc .vmem S1x128x6144 .f32) (harg3 : arg3.IsWhole) (arg4 : Memref sig .tc .vmem S1x128x6144 .bf16) (harg4 : arg4.IsWhole) (arg5 : Memref sig .tc .vmem S1x128x6144 .f32) (harg5 : arg5.IsWhole) (arg6 : Memref sig .tc .vmem S1x128x6144 .f32) (harg6 : arg6.IsWhole) (arg7 : Memref sig .tc .vmem S1x128x6144 .f32) (harg7 : arg7.IsWhole) (arg8 : Memref sig .tc .vmem S1x128x6144 .f32) (harg8 : arg8.IsWhole) (arg9 : Memref sig .tc .vmem S1x128x6144 .f32) (harg9 : arg9.IsWhole) (arg10 : Memref sig .tc .smem S3 .f32) (harg10 : arg10.IsWhole) (arg11 : Memref sig .tc .vmem S1x128x6144 .fp8e4m3) (harg11 : arg11.IsWhole) (arg12 : Memref sig .tc .vmem S1x6144x128 .fp8e4m3) (harg12 : arg12.IsWhole) (arg13 : Memref sig .tc .vmem S8x128 .f32) (harg13 : arg13.IsWhole) (hc0 : ¬cond0_0 i) (hc1 : cond0_1 i)
    (x0 : Vec F S4x3 .f32) (x1 : Vec F S1x128x6144 .f32) (x2 : Vec F S1x128x6144 .bf16) (x3 : Vec F S1x128x6144 .f32) (x4 : Vec F S1x128x6144 .f32) (xs0 : Vec F S8x128 .f32) :
    { LS0 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS0)) -∗ K ⟨⟩))
          ⊢ wp frame (wpE (defs₀ (F := F)) Variants.none c none) E (cc0_adamw_fp8 i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_adamw_fp8_eq_skeleton]; unfold cc0_adamw_fp8_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg13.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _; iexact HS0

end Cert.Kernel.Run

end
-- ==== Proof.KernelFrame.lean ====
/- The frame of the kernel at the machine's floats: it runs, leaves its arguments as they were and every semaphore at zero.
   Taken over from the frame certificate that the generator writes for this program when it stands alone. -/
module

public import proofs.«01_k».proof.Proof.KernelRunC
public import Idealize.ShloMosaic.Lib.Claim

@[expose] public section

-- membership in a rectangle of production extents (`View.cover_of_tiled`): the elaborator's structural look
-- recurses once per coordinate of the long axes
set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg13`, which the kernel carries between points, cover it: 2 pieces of `S8x128` tiling it (Lib/Ring.lean `Piece.tiledL`). -/
theorem scover0_A_0 (c : Dev nD) (i : grid0.Coords) (arg2 : Memref sig .tc .smem S4x3 .f32) (harg2 : arg2.IsWhole) (arg3 : Memref sig .tc .vmem S1x128x6144 .f32) (harg3 : arg3.IsWhole) (arg4 : Memref sig .tc .vmem S1x128x6144 .bf16) (harg4 : arg4.IsWhole) (arg5 : Memref sig .tc .vmem S1x128x6144 .f32) (harg5 : arg5.IsWhole) (arg6 : Memref sig .tc .vmem S1x128x6144 .f32) (harg6 : arg6.IsWhole) (arg7 : Memref sig .tc .vmem S1x128x6144 .f32) (harg7 : arg7.IsWhole) (arg8 : Memref sig .tc .vmem S1x128x6144 .f32) (harg8 : arg8.IsWhole) (arg9 : Memref sig .tc .vmem S1x128x6144 .f32) (harg9 : arg9.IsWhole) (arg10 : Memref sig .tc .smem S3 .f32) (harg10 : arg10.IsWhole) (arg11 : Memref sig .tc .vmem S1x128x6144 .fp8e4m3) (harg11 : arg11.IsWhole) (arg12 : Memref sig .tc .vmem S1x6144x128 .fp8e4m3) (harg12 : arg12.IsWhole) (arg13 : Memref sig .tc .vmem S8x128 .f32) (harg13 : arg13.IsWhole) (hc0 : cond0_0 i) (hc1 : ¬cond0_1 i)
    (x0 : Vec F S4x3 .f32) (x1 : Vec F S1x128x6144 .f32) (x2 : Vec F S1x128x6144 .bf16) (x3 : Vec F S1x128x6144 .f32) (x4 : Vec F S1x128x6144 .f32) (y : S8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).1 S8x128.size (by sl_kernel_rfl) y

/-- What case A leaves in scratch `arg13`: its pieces read back over junk. -/
def sout0_A_0 (c : Dev nD) (i : grid0.Coords) (arg2 : Memref sig .tc .smem S4x3 .f32) (harg2 : arg2.IsWhole) (arg3 : Memref sig .tc .vmem S1x128x6144 .f32) (harg3 : arg3.IsWhole) (arg4 : Memref sig .tc .vmem S1x128x6144 .bf16) (harg4 : arg4.IsWhole) (arg5 : Memref sig .tc .vmem S1x128x6144 .f32) (harg5 : arg5.IsWhole) (arg6 : Memref sig .tc .vmem S1x128x6144 .f32) (harg6 : arg6.IsWhole) (arg7 : Memref sig .tc .vmem S1x128x6144 .f32) (harg7 : arg7.IsWhole) (arg8 : Memref sig .tc .vmem S1x128x6144 .f32) (harg8 : arg8.IsWhole) (arg9 : Memref sig .tc .vmem S1x128x6144 .f32) (harg9 : arg9.IsWhole) (arg10 : Memref sig .tc .smem S3 .f32) (harg10 : arg10.IsWhole) (arg11 : Memref sig .tc .vmem S1x128x6144 .fp8e4m3) (harg11 : arg11.IsWhole) (arg12 : Memref sig .tc .vmem S1x6144x128 .fp8e4m3) (harg12 : arg12.IsWhole) (arg13 : Memref sig .tc .vmem S8x128 .f32) (harg13 : arg13.IsWhole) (hc0 : cond0_0 i) (hc1 : ¬cond0_1 i)
    (x0 : Vec F S4x3 .f32) (x1 : Vec F S1x128x6144 .f32) (x2 : Vec F S1x128x6144 .bf16) (x3 : Vec F S1x128x6144 .f32) (x4 : Vec F S1x128x6144 .f32) : Vec F S8x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4).1)

/-- Case B's pieces for scratch `arg13`, which the kernel carries between points, cover it: 1 piece of `S8x128` tiling it (Lib/Ring.lean `Piece.tiledL`). -/
theorem scover0_B_0 (c : Dev nD) (i : grid0.Coords) (arg2 : Memref sig .tc .smem S4x3 .f32) (harg2 : arg2.IsWhole) (arg3 : Memref sig .tc .vmem S1x128x6144 .f32) (harg3 : arg3.IsWhole) (arg4 : Memref sig .tc .vmem S1x128x6144 .bf16) (harg4 : arg4.IsWhole) (arg5 : Memref sig .tc .vmem S1x128x6144 .f32) (harg5 : arg5.IsWhole) (arg6 : Memref sig .tc .vmem S1x128x6144 .f32) (harg6 : arg6.IsWhole) (arg7 : Memref sig .tc .vmem S1x128x6144 .f32) (harg7 : arg7.IsWhole) (arg8 : Memref sig .tc .vmem S1x128x6144 .f32) (harg8 : arg8.IsWhole) (arg9 : Memref sig .tc .vmem S1x128x6144 .f32) (harg9 : arg9.IsWhole) (arg10 : Memref sig .tc .smem S3 .f32) (harg10 : arg10.IsWhole) (arg11 : Memref sig .tc .vmem S1x128x6144 .fp8e4m3) (harg11 : arg11.IsWhole) (arg12 : Memref sig .tc .vmem S1x6144x128 .fp8e4m3) (harg12 : arg12.IsWhole) (arg13 : Memref sig .tc .vmem S8x128 .f32) (harg13 : arg13.IsWhole) (hc0 : ¬cond0_0 i) (hc1 : ¬cond0_1 i)
    (x0 : Vec F S4x3 .f32) (x1 : Vec F S1x128x6144 .f32) (x2 : Vec F S1x128x6144 .bf16) (x3 : Vec F S1x128x6144 .f32) (x4 : Vec F S1x128x6144 .f32) (xs0 : Vec F S8x128 .f32) (y : S8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0).1 S8x128.size (by sl_kernel_rfl) y

/-- What case B leaves in scratch `arg13`: its pieces read back over junk. -/
def sout0_B_0 (c : Dev nD) (i : grid0.Coords) (arg2 : Memref sig .tc .smem S4x3 .f32) (harg2 : arg2.IsWhole) (arg3 : Memref sig .tc .vmem S1x128x6144 .f32) (harg3 : arg3.IsWhole) (arg4 : Memref sig .tc .vmem S1x128x6144 .bf16) (harg4 : arg4.IsWhole) (arg5 : Memref sig .tc .vmem S1x128x6144 .f32) (harg5 : arg5.IsWhole) (arg6 : Memref sig .tc .vmem S1x128x6144 .f32) (harg6 : arg6.IsWhole) (arg7 : Memref sig .tc .vmem S1x128x6144 .f32) (harg7 : arg7.IsWhole) (arg8 : Memref sig .tc .vmem S1x128x6144 .f32) (harg8 : arg8.IsWhole) (arg9 : Memref sig .tc .vmem S1x128x6144 .f32) (harg9 : arg9.IsWhole) (arg10 : Memref sig .tc .smem S3 .f32) (harg10 : arg10.IsWhole) (arg11 : Memref sig .tc .vmem S1x128x6144 .fp8e4m3) (harg11 : arg11.IsWhole) (arg12 : Memref sig .tc .vmem S1x6144x128 .fp8e4m3) (harg12 : arg12.IsWhole) (arg13 : Memref sig .tc .vmem S8x128 .f32) (harg13 : arg13.IsWhole) (hc0 : ¬cond0_0 i) (hc1 : ¬cond0_1 i)
    (x0 : Vec F S4x3 .f32) (x1 : Vec F S1x128x6144 .f32) (x2 : Vec F S1x128x6144 .bf16) (x3 : Vec F S1x128x6144 .f32) (x4 : Vec F S1x128x6144 .f32) (xs0 : Vec F S8x128 .f32) : Vec F S8x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 xs0).1)

/-- Case C's pieces for scratch `arg13`, which the kernel carries between points, cover it: 1 piece of `S8x128` tiling it (Lib/Ring.lean `Piece.tiledL`). -/
theorem scover0_C_0 (c : Dev nD) (i : grid0.Coords) (arg2 : Memref sig .tc .smem S4x3 .f32) (harg2 : arg2.IsWhole) (arg3 : Memref sig .tc .vmem S1x128x6144 .f32) (harg3 : arg3.IsWhole) (arg4 : Memref sig .tc .vmem S1x128x6144 .bf16) (harg4 : arg4.IsWhole) (arg5 : Memref sig .tc .vmem S1x128x6144 .f32) (harg5 : arg5.IsWhole) (arg6 : Memref sig .tc .vmem S1x128x6144 .f32) (harg6 : arg6.IsWhole) (arg7 : Memref sig .tc .vmem S1x128x6144 .f32) (harg7 : arg7.IsWhole) (arg8 : Memref sig .tc .vmem S1x128x6144 .f32) (harg8 : arg8.IsWhole) (arg9 : Memref sig .tc .vmem S1x128x6144 .f32) (harg9 : arg9.IsWhole) (arg10 : Memref sig .tc .smem S3 .f32) (harg10 : arg10.IsWhole) (arg11 : Memref sig .tc .vmem S1x128x6144 .fp8e4m3) (harg11 : arg11.IsWhole) (arg12 : Memref sig .tc .vmem S1x6144x128 .fp8e4m3) (harg12 : arg12.IsWhole) (arg13 : Memref sig .tc .vmem S8x128 .f32) (harg13 : arg13.IsWhole) (hc0 : ¬cond0_0 i) (hc1 : cond0_1 i)
    (x0 : Vec F S4x3 .f32) (x1 : Vec F S1x128x6144 .f32) (x2 : Vec F S1x128x6144 .bf16) (x3 : Vec F S1x128x6144 .f32) (x4 : Vec F S1x128x6144 .f32) (xs0 : Vec F S8x128 .f32) (y : S8x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0).1 S8x128.size (by sl_kernel_rfl) y

/-- What case C leaves in scratch `arg13`: its pieces read back over junk. -/
def sout0_C_0 (c : Dev nD) (i : grid0.Coords) (arg2 : Memref sig .tc .smem S4x3 .f32) (harg2 : arg2.IsWhole) (arg3 : Memref sig .tc .vmem S1x128x6144 .f32) (harg3 : arg3.IsWhole) (arg4 : Memref sig .tc .vmem S1x128x6144 .bf16) (harg4 : arg4.IsWhole) (arg5 : Memref sig .tc .vmem S1x128x6144 .f32) (harg5 : arg5.IsWhole) (arg6 : Memref sig .tc .vmem S1x128x6144 .f32) (harg6 : arg6.IsWhole) (arg7 : Memref sig .tc .vmem S1x128x6144 .f32) (harg7 : arg7.IsWhole) (arg8 : Memref sig .tc .vmem S1x128x6144 .f32) (harg8 : arg8.IsWhole) (arg9 : Memref sig .tc .vmem S1x128x6144 .f32) (harg9 : arg9.IsWhole) (arg10 : Memref sig .tc .smem S3 .f32) (harg10 : arg10.IsWhole) (arg11 : Memref sig .tc .vmem S1x128x6144 .fp8e4m3) (harg11 : arg11.IsWhole) (arg12 : Memref sig .tc .vmem S1x6144x128 .fp8e4m3) (harg12 : arg12.IsWhole) (arg13 : Memref sig .tc .vmem S8x128 .f32) (harg13 : arg13.IsWhole) (hc0 : ¬cond0_0 i) (hc1 : cond0_1 i)
    (x0 : Vec F S4x3 .f32) (x1 : Vec F S1x128x6144 .f32) (x2 : Vec F S1x128x6144 .bf16) (x3 : Vec F S1x128x6144 .f32) (x4 : Vec F S1x128x6144 .f32) (xs0 : Vec F S8x128 .f32) : Vec F S8x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 xs0).1)

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x128 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 20 = 0 then
      if h1 : (n + 1) % 20 = 19 then
        False.elim (by have hN : n + 1 < 60 := lt_of_lt_of_eq hn (show cfg0.N = 60 from N_0); omega)
      else
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      if h1 : (n + 1) % 20 = 19 then
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))
      else
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn))

/-- `outsAt0` at a point of case A: that case's contents. -/
theorem outsAt0_A (c : Dev nD) (t : Fin cfg0.N) (h0 : t.val % 20 = 0) (h1 : ¬t.val % 20 = 19) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk m c 0 t) (iblk m c 1 t) (iblk m c 2 t) (iblk m c 3 t) (iblk m c 4 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 20 = 0) (h1 : ¬t.val % 20 = 19) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 20 = 0) (h1 : t.val % 20 = 19) :
    outsAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn))) ∗ (∃ r, prngReg c r))

/-- Before the first point the invariant is the one of the launch. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn))) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)))) ∗ (∃ r, prngReg c r)) := by
  cases n with
  | zero => exact absurd rfl hz
  | succ n => rfl

/-! ## The pipeline's proof data -/

/-- The output windows this certificate FORGETS (5, 6, 7, 8, 9, 10): nothing reads what the kernel leaves in them, so nothing
    of it is named (Lib/Pipeline/Dat.lean `Dat.toRForget`). -/
def forgets0 : Fin 11 → Bool := fun w => w.val == 5 || w.val == 6 || w.val == 7 || w.val == 8 || w.val == 9 || w.val == 10

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- The block of input 1 after a point is the block of its array. -/
theorem after0_1 (c : Dev nD) (t : Fin cfg0.N) : (dats m 0 c).after 1 t = iblk m c 1 t := by dsimp only [dats]
/-- The block of input 2 after a point is the block of its array. -/
theorem after0_2 (c : Dev nD) (t : Fin cfg0.N) : (dats m 0 c).after 2 t = iblk m c 2 t := by dsimp only [dats]
/-- The block of input 3 after a point is the block of its array. -/
theorem after0_3 (c : Dev nD) (t : Fin cfg0.N) : (dats m 0 c).after 3 t = iblk m c 3 t := by dsimp only [dats]
/-- The block of input 4 after a point is the block of its array. -/
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The block of input 1 before a point is the block of its array. -/
theorem before0_1 (c : Dev nD) (t : Fin cfg0.N) (d) : (dats m 0 c).before 1 t d = iblk m c 1 t :=
  before0_1_of m (dats m 0 c) (A_eq m c 1) (after0_1 m c) t d
/-- The block of input 2 before a point is the block of its array. -/
theorem before0_2 (c : Dev nD) (t : Fin cfg0.N) (d) : (dats m 0 c).before 2 t d = iblk m c 2 t :=
  before0_2_of m (dats m 0 c) (A_eq m c 2) (after0_2 m c) t d
/-- The block of input 3 before a point is the block of its array. -/
theorem before0_3 (c : Dev nD) (t : Fin cfg0.N) (d) : (dats m 0 c).before 3 t d = iblk m c 3 t :=
  before0_3_of m (dats m 0 c) (A_eq m c 3) (after0_3 m c) t d
/-- The block of input 4 before a point is the block of its array. -/
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 60 := lt_of_lt_of_eq t.isLt (show cfg0.N = 60 from N_0)
  by_cases h0 : t.val % 20 = 0
  · by_cases h1 : t.val % 20 = 19
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      by_cases hz : t.val = 0
      · rw [PhiS_castSucc m c t, PhiS_zero m c _ _ hz, PhiA0_eq]
        rw [outsAt0_A m c t h0 h1]
        unfold sout0_A_0
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexists _; iexact H10
        isplitl [HS0]; · iexact HS0
        iintro ⟨H0, H1, H2, H3, H4, H5, H6, H7, H8, H9, H10, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      · rw [PhiS_castSucc m c t, PhiS_pos m c _ _ hz]
        rw [outsAt0_A m c t h0 h1]
        unfold sout0_A_0
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexists _; iexact H10
        isplitl [HS0]; · iexists _; iexact HS0
        iintro ⟨H0, H1, H2, H3, H4, H5, H6, H7, H8, H9, H10, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
  · by_cases h1 : t.val % 20 = 19
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      by_cases hz : t.val = 0
      · exfalso; have hN : t.val < 60 := lt_of_lt_of_eq t.isLt (show cfg0.N = 60 from N_0); omega
      · rw [PhiS_castSucc m c t, PhiS_pos m c _ _ hz]
        rw [outsAt0_C m c t h0 h1]
        unfold sout0_C_0
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexists _; iexact H10
        isplitl [HS0]; · iexact HS0
        iintro ⟨H0, H1, H2, H3, H4, H5, H6, H7, H8, H9, H10, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      by_cases hz : t.val = 0
      · exfalso; have hN : t.val < 60 := lt_of_lt_of_eq t.isLt (show cfg0.N = 60 from N_0); omega
      · rw [PhiS_castSucc m c t, PhiS_pos m c _ _ hz]
        rw [outsAt0_B m c t h0 h1]
        unfold sout0_B_0
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexists _; iexact H10
        isplitl [HS0]; · iexact HS0
        iintro ⟨H0, H1, H2, H3, H4, H5, H6, H7, H8, H9, H10, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 60 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 5, 6, 7, 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Run

end
-- ==== Proof.Block.lean ====
/- One 128 by 128 chunk of the update at the extended reals: each vector the body stores, read at an index, as a
   formula over the numbers it was computed from. -/
module

public import proofs.«01_k».proof.Proof.Gen.KernelIdeal.Skeleton
public import Idealize.ShloMosaic.Lib.Pointwise
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem

/-- The new first moment of one element: 0.9 m + 0.1 g. -/
def mnS (g m : EReal) : EReal := Ideal.ofBits .f32 0x3F666666#32 * m + Ideal.ofBits .f32 0x3DCCCCCD#32 * g

/-- The new second moment of one element: 0.95 v + 0.05 g g. -/
def vnS (g v : EReal) : EReal := Ideal.ofBits .f32 0x3F733333#32 * v + Ideal.ofBits .f32 0x3D4CCCCD#32 * g * g

/-- The new weight of one element, from the layer's decay factor, step size and inverse root of the bias correction. -/
def wnS (v1 v3 v5 w g m v : EReal) : EReal :=
  w * v1 - v3 * Ideal.div (mnS g m) (Ideal.sqrt (vnS g v) * v5 + Ideal.ofBits .f32 0x322BCC77#32)

/-- The code of one weight: scaled and clipped to the largest number of the eight-bit format. -/
def cdS (v7 x : EReal) : EReal := min (Ideal.ofBits .f32 0x43E00000#32) (max (Ideal.ofBits .f32 0xC3E00000#32) (x * v7))

/-- The absolute value as the program computes it. -/
def abS (x : EReal) : EReal := max x (-x)

/-- The new second moment of a chunk, at one element. -/
theorem pay12_at (v23 : FVec Ideal S1x128x128 .bf16) (v35 : FVec Ideal S1x128x128 .f32) (a b : Fin 128) :
    k0_pay12 (F := Ideal) v23 v35 (ix2 a b) = vnS (v23 (ix3 0 a b)) (v35 (ix3 0 a b)) := by
  pointwise [k0_pay12, k0_pay10, vnS]

/-- The new first moment of a chunk, at one element. -/
theorem pay11_at (v23 : FVec Ideal S1x128x128 .bf16) (v27 : FVec Ideal S1x128x128 .f32) (a b : Fin 128) :
    k0_pay11 (F := Ideal) v23 v27 (ix2 a b) = mnS (v23 (ix3 0 a b)) (v27 (ix3 0 a b)) := by
  pointwise [k0_pay11, k0_pay10, mnS]

/-- The new weight of a chunk, at one element. -/
theorem pay13_at (v1 v3 v5 : EReal) (v23 : FVec Ideal S1x128x128 .bf16) (v27 v35 v49 : FVec Ideal S1x128x128 .f32) (a b : Fin 128) :
    k0_pay13 (F := Ideal) v1 v3 v5 v23 v27 v35 v49 (ix2 a b)
      = wnS v1 v3 v5 (v49 (ix3 0 a b)) (v23 (ix3 0 a b)) (v27 (ix3 0 a b)) (v35 (ix3 0 a b)) := by
  pointwise [k0_pay13, k0_pay12, k0_pay11, k0_pay10, wnS, mnS, vnS]

/-- A chunk stored by this operation is the computed one. -/
theorem pay2_at (u : FVec Ideal S128x128 .f32) (z : Fin 1) (a b : Fin 128) : k0_pay2 (F := Ideal) u (ix3 z a b) = u (ix2 a b) := by
  pointwise [k0_pay2]

/-- A chunk stored by this other operation is the computed one. -/
theorem pay3_at (u : FVec Ideal S128x128 .f32) (z : Fin 1) (a b : Fin 128) : k0_pay3 (F := Ideal) u (ix3 z a b) = u (ix2 a b) := by
  pointwise [k0_pay3]

/-- The new first moment of a chunk as it is stored, at one element. -/
theorem pay14_at (v23 : FVec Ideal S1x128x128 .bf16) (v27 : FVec Ideal S1x128x128 .f32) (z : Fin 1) (a b : Fin 128) :
    k0_pay14 (F := Ideal) v23 v27 (ix3 z a b) = mnS (v23 (ix3 0 a b)) (v27 (ix3 0 a b)) := by
  pointwise [k0_pay14, k0_pay11, k0_pay10, mnS]

/-- The stored codes, at one element. -/
theorem pay5_at (v7 : EReal) (u : FVec Ideal S128x128 .f32) (z : Fin 1) (a b : Fin 128) :
    k0_pay5 (F := Ideal) v7 u (ix3 z a b) = cdS v7 (u (ix2 a b)) := by
  pointwise [k0_pay5, k0_pay4, cdS]

/-- The stored transposed codes, at one element. -/
theorem pay6_at (v7 : EReal) (u : FVec Ideal S128x128 .f32) (z : Fin 1) (a b : Fin 128) :
    k0_pay6 (F := Ideal) v7 u (ix3 z a b) = cdS v7 (u (ix2 b a)) := by
  pointwise [k0_pay6, k0_pay4, cdS]

/-- The running maximum after a chunk, at one place. -/
theorem pay7_at (acc : FVec Ideal S8x128 .f32) (u : FVec Ideal S128x128 .f32) (a : Fin 8) (b : Fin 128) :
    k0_pay7 (F := Ideal) acc u (ix2 a b)
      = max (acc (ix2 a b)) (Finset.univ.fold max (Ideal.ofBits .f32 0xFF800000#32) fun q : Fin 16 => abS (u (ix2 ⟨q.val * 8 + a.val, by omega⟩ b))) := by
  pointwise [k0_pay7, abS]
  rfl

/-- A fold of maxima is below a bound when its start and every entry are. -/
theorem fold_max_le {ι : Type} (s : Finset ι) (b : EReal) (f : ι → EReal) (z : EReal) :
    s.fold max b f ≤ z ↔ b ≤ z ∧ ∀ i ∈ s, f i ≤ z := Finset.fold_max_le z

/-- The pattern the maxima start from is minus infinity. -/
theorem ofBits_ninf : Ideal.ofBits .f32 0xFF800000#32 = (⊥ : EReal) := by
  simp [Ideal.ofBits, Ideal.ieee]

/-- The running maximum after one chunk, by its upper bounds. -/
theorem pay7_le (acc : FVec Ideal S8x128 .f32) (u : FVec Ideal S128x128 .f32) (a : Fin 8) (b : Fin 128) (z : EReal) :
    k0_pay7 (F := Ideal) acc u (ix2 a b) ≤ z
      ↔ acc (ix2 a b) ≤ z ∧ ∀ q : Fin 16, abS (u (ix2 ⟨q.val * 8 + a.val, by omega⟩ b)) ≤ z := by
  rw [pay7_at, max_le_iff, fold_max_le, ofBits_ninf]
  simp

/-- The maximum of the whole running maximum, by its upper bounds. -/
theorem pay9_eq (acc : FVec Ideal S8x128 .f32) (z : EReal) :
    k0_pay9 (F := Ideal) acc ≤ z ↔ ∀ (a : Fin 8) (b : Fin 128), acc (ix2 a b) ≤ z := by
  have e : k0_pay9 (F := Ideal) acc
      = Finset.univ.fold max (Ideal.ofBits .f32 0xFF800000#32) fun x : Fin 8 × Fin 128 => acc (ix2 x.1 x.2) := by
    unfold k0_pay9
    pointwise []
  rw [e, fold_max_le, ofBits_ninf]
  simp

/-- The running maximum starts from zero. -/
theorem pay1_at (a : Fin 8) (b : Fin 128) : k0_pay1 (F := Ideal) (ix2 a b) = 0 := by
  pointwise [k0_pay1]

/-- The running maximum is stored as computed. -/
theorem pay8_eq (x : FVec Ideal S8x128 .f32) : k0_pay8 (F := Ideal) x = x := by
  funext i
  pointwise [k0_pay8]

end Cert.KernelIdeal.Val
end
-- ==== Proof.Trip.lean ====
/- The loop over the 48 column chunks of a block, at the extended reals: what each trip stores and the running
   maximum it carries. -/
module

public import proofs.«01_k».proof.Proof.Block
public import proofs.«01_k».proof.Proof.Gen.KernelIdeal.Launch
public import proofs.«01_k».proof.Proof.Gen.KernelIdeal.Points
public import proofs.«01_k».proof.Proof.Gen.KernelIdeal.Frame
public import Idealize.ShloMosaic.Lib.WritesUnit
public import Idealize.ShloMosaic.Lib.VecWindow
public import Idealize.ShloMosaic.Lib.Pipeline.ValueKit
public import Idealize.ShloMosaic.Lib.Tactic

@[expose] public section

set_option maxRecDepth 16384
set_option maxHeartbeats 2000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

local notation "𝕄G" => MT nD τ sig Unit (Elt Ideal) ℕ (UR sig nD τ) ℕ

/-- Trip `k` starts at column `128 k`. -/
theorem off5_eq (k : Fin k0_t1_loop.trips) : k0_off5 k = ![0, 0, 128 * k.val] :=
  funext fun a => (by decide +kernel : ∀ k : Fin k0_t1_loop.trips, ∀ a, k0_off5 k a = (![0, 0, 128 * k.val] : Fin 3 → ℕ) a) k a

/-- Trip `k` of the transposed output starts at row `128 k`. -/
theorem off6_eq (k : Fin k0_t1_loop.trips) : k0_off6 k = ![0, 128 * k.val, 0] :=
  funext fun a => (by decide +kernel : ∀ k : Fin k0_t1_loop.trips, ∀ a, k0_off6 k a = (![0, 128 * k.val, 0] : Fin 3 → ℕ) a) k a

/-- The loop makes 48 trips. -/
theorem trips_eq : k0_t1_loop.trips = 48 := by decide +kernel

/-- A trip's number is below 48. -/
theorem trip_lt (k : Fin k0_t1_loop.trips) : k.val < 48 := Nat.lt_of_lt_of_eq k.isLt trips_eq

section Reads

variable {e : EltTy} {sp : Space}

/-- What a trip loads of a block whose contents read `x`: the block's columns from `128 k` on. -/
theorem load_at (v : View sig .tc sp S1x128x6144 e) (X : v.ty.Contents (Elt Ideal)) (x : S1x128x6144.Idx → Elt Ideal e) (hX : v.read (Elt Ideal) X = x)
    (k : Fin k0_t1_loop.trips) (inb : ∀ a, (k0_off5 k) a + S1x128x128.size a ≤ S1x128x6144.size a) (a b : Fin 128) :
    View.readAt (Elt Ideal) v (Rect.unit (s := S1x128x6144) (k0_off5 k) S1x128x128.size inb).toLoadRect X (ix3 0 a b)
      = x (ix3 0 a ⟨128 * k.val + b.val, by have := trip_lt k; omega⟩) := by
  subst hX
  rw [View.readAt_unit v X inb (off5_eq k) (by rw [← off5_eq k]; exact inb)]
  unfold VecWindow.window
  refine congrArg (v.read (Elt Ideal) X) (funext fun i => Fin.ext ?_)
  fin_cases i <;> simp [ix3]

/-- One chunk stored on top of the chunks before it: the columns below `128 (k + 1)` read as they should. -/
theorem store_chunk (v : View sig .tc sp S1x128x6144 e) (f : v.ty.Contents (Elt Ideal)) (k : Fin k0_t1_loop.trips)
    (inb : ∀ a, (k0_off5 k) a + S1x128x128.size a ≤ S1x128x6144.size a)
    (w : (Rect.unit (s := S1x128x6144) (k0_off5 k) S1x128x128.size inb).shape.Idx → Elt Ideal e) (G : Fin 128 → Fin 6144 → Elt Ideal e)
    (h : ∀ a j, j.val < 128 * k.val → v.read (Elt Ideal) f (ix3 0 a j) = G a j)
    (hw : ∀ (a b : Fin 128) (hb : 128 * k.val + b.val < 6144), w (ix3 (0 : Fin 1) a b : S1x128x128.Idx) = G a ⟨128 * k.val + b.val, hb⟩) :
    ∀ (a : Fin 128) (j : Fin 6144), j.val < 128 * (k.val + 1) →
      v.read (Elt Ideal) (v.writes (Elt Ideal) f [⟨Rect.unit (s := S1x128x6144) (k0_off5 k) S1x128x128.size inb, w⟩]) (ix3 0 a j) = G a j := by
  intro a j hj
  by_cases hlt : j.val < 128 * k.val
  · rw [View.read_writes_cons_unit_of_not_mem v f inb w [] (ix3 0 a j) (off5_eq k) 2 (Or.inl hlt)]
    exact h a j hlt
  · have hb : j.val - 128 * k.val < 128 := by omega
    refine (View.read_writes_cons_unit_of_mem v f inb w [] (ix3 0 a j) (ix3 (0 : Fin 1) a ⟨j.val - 128 * k.val, hb⟩ : S1x128x128.Idx) (off5_eq k) ?_).trans ?_
    · intro i
      fin_cases i
      · rfl
      · exact (Nat.zero_add _).symm
      · show j.val = 128 * k.val + (j.val - 128 * k.val)
        omega
    · refine (hw a ⟨j.val - 128 * k.val, hb⟩ (by show 128 * k.val + (j.val - 128 * k.val) < 6144; omega)).trans ?_
      refine congrArg (G a) (Fin.ext ?_)
      show 128 * k.val + (j.val - 128 * k.val) = j.val
      omega

/-- The same for the transposed output, whose chunks are bands of rows. -/
theorem store_chunkT (v : View sig .tc sp S1x6144x128 e) (f : v.ty.Contents (Elt Ideal)) (k : Fin k0_t1_loop.trips)
    (inb : ∀ a, (k0_off6 k) a + S1x128x128.size a ≤ S1x6144x128.size a)
    (w : (Rect.unit (s := S1x6144x128) (k0_off6 k) S1x128x128.size inb).shape.Idx → Elt Ideal e) (G : Fin 6144 → Fin 128 → Elt Ideal e)
    (h : ∀ j a, j.val < 128 * k.val → v.read (Elt Ideal) f (ix3 0 j a) = G j a)
    (hw : ∀ (b a : Fin 128) (hb : 128 * k.val + b.val < 6144), w (ix3 (0 : Fin 1) b a : S1x128x128.Idx) = G ⟨128 * k.val + b.val, hb⟩ a) :
    ∀ (j : Fin 6144) (a : Fin 128), j.val < 128 * (k.val + 1) →
      v.read (Elt Ideal) (v.writes (Elt Ideal) f [⟨Rect.unit (s := S1x6144x128) (k0_off6 k) S1x128x128.size inb, w⟩]) (ix3 0 j a) = G j a := by
  intro j a hj
  by_cases hlt : j.val < 128 * k.val
  · rw [View.read_writes_cons_unit_of_not_mem v f inb w [] (ix3 0 j a) (off6_eq k) 1 (Or.inl hlt)]
    exact h j a hlt
  · have hb : j.val - 128 * k.val < 128 := by omega
    refine (View.read_writes_cons_unit_of_mem v f inb w [] (ix3 0 j a) (ix3 (0 : Fin 1) ⟨j.val - 128 * k.val, hb⟩ a : S1x128x128.Idx) (off6_eq k) ?_).trans ?_
    · intro i
      fin_cases i
      · rfl
      · show j.val = 128 * k.val + (j.val - 128 * k.val)
        omega
      · exact (Nat.zero_add _).symm
    · refine (hw ⟨j.val - 128 * k.val, hb⟩ a (by show 128 * k.val + (j.val - 128 * k.val) < 6144; omega)).trans ?_
      refine congrArg (fun j => G j a) (Fin.ext ?_)
      show 128 * k.val + (j.val - 128 * k.val) = j.val
      omega

end Reads

/-- The new weight at a row and column of a block, from the block's contents. -/
def wnB (v1 v3 v5 : EReal) (x3 : FVec Ideal S1x128x6144 .f32) (x4 : FVec Ideal S1x128x6144 .bf16) (x5 x6 : FVec Ideal S1x128x6144 .f32) (a : Fin 128) (j : Fin 6144) : EReal :=
  wnS v1 v3 v5 (x3 (ix3 0 a j)) (x4 (ix3 0 a j)) (x5 (ix3 0 a j)) (x6 (ix3 0 a j))

/-- Before trip `k`, the carried maximum at (a, b) bounds what it started from and the new weights of the rows `8 q + a`
    and columns `128 l + b` of the trips before. -/
def AccInv (WN : Fin 128 → Fin 6144 → EReal) (init acc : FVec Ideal S8x128 .f32) (k : ℕ) : Prop :=
  ∀ (a : Fin 8) (b : Fin 128) (z : EReal), acc (ix2 a b) ≤ z ↔ init (ix2 a b) ≤ z ∧
    ∀ (l : Fin 48), l.val < k → ∀ q : Fin 16, abS (WN ⟨q.val * 8 + a.val, by omega⟩ ⟨128 * l.val + b.val, by omega⟩) ≤ z

/-- One more chunk under the running maximum. -/
theorem AccInv.step {WN : Fin 128 → Fin 6144 → EReal} {init acc : FVec Ideal S8x128 .f32} {k : ℕ} (hk : k < 48) (h : AccInv WN init acc k)
    (u : FVec Ideal S128x128 .f32) (hu : ∀ a b : Fin 128, u (ix2 a b) = WN a ⟨128 * k + b.val, by omega⟩) :
    AccInv WN init (k0_pay7 (F := Ideal) acc u) (k + 1) := by
  intro a b z
  rw [pay7_le, h a b z, and_assoc]
  refine and_congr_right fun _ => ?_
  constructor
  · rintro ⟨h1, h2⟩ l hl q
    by_cases e : l.val < k
    · exact h1 l e q
    · have e' : l.val = k := by omega
      have := h2 q
      rw [hu] at this
      simpa only [e'] using this
  · intro h'
    refine ⟨fun l hl q => h' l (by omega) q, fun q => ?_⟩
    rw [hu]
    exact h' ⟨k, hk⟩ (Nat.lt_succ_self k) q

/-- What holds before trip `k`: the four input blocks as they were, the columns below `128 k` of the outputs stored, the
    running maximum over those columns. -/
def Inv (c : Dev nD) (arg2 : Memref sig .tc .smem S4x3 .f32) (harg2 : arg2.IsWhole) (arg3 : Memref sig .tc .vmem S1x128x6144 .f32) (harg3 : arg3.IsWhole) (arg4 : Memref sig .tc .vmem S1x128x6144 .bf16) (harg4 : arg4.IsWhole) (arg5 : Memref sig .tc .vmem S1x128x6144 .f32) (harg5 : arg5.IsWhole) (arg6 : Memref sig .tc .vmem S1x128x6144 .f32) (harg6 : arg6.IsWhole) (arg7 : Memref sig .tc .vmem S1x128x6144 .f32) (harg7 : arg7.IsWhole) (arg8 : Memref sig .tc .vmem S1x128x6144 .f32) (harg8 : arg8.IsWhole) (arg9 : Memref sig .tc .vmem S1x128x6144 .f32) (harg9 : arg9.IsWhole) (arg10 : Memref sig .tc .smem S3 .f32) (harg10 : arg10.IsWhole) (arg11 : Memref sig .tc .vmem S1x128x6144 .fp8e4m3) (harg11 : arg11.IsWhole) (arg12 : Memref sig .tc .vmem S1x6144x128 .fp8e4m3) (harg12 : arg12.IsWhole) (arg13 : Memref sig .tc .vmem S8x128 .f32) (harg13 : arg13.IsWhole) (v1 v3 v5 v7 : Elt Ideal .f32) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (x3 : FVec Ideal S1x128x6144 .f32) (x4 : FVec Ideal S1x128x6144 .bf16) (x5 x6 : FVec Ideal S1x128x6144 .f32) (init : FVec Ideal S8x128 .f32) (k : ℕ) (acc : Vec Ideal S8x128 .f32) : sProp 𝕄G :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
    ∗ (∃ f, (arg7.view.loc (c : Thread nD τ) ↦[arg7.view.set]{fullShare} f) ∗ ⌜∀ (a : Fin 128) (j : Fin 6144), j.val < 128 * k → arg7.view.read (Elt Ideal) f (ix3 0 a j) = wnB v1 v3 v5 x3 x4 x5 x6 a j⌝)
    ∗ (∃ f, (arg8.view.loc (c : Thread nD τ) ↦[arg8.view.set]{fullShare} f) ∗ ⌜∀ (a : Fin 128) (j : Fin 6144), j.val < 128 * k → arg8.view.read (Elt Ideal) f (ix3 0 a j) = mnS (x4 (ix3 0 a j)) (x5 (ix3 0 a j))⌝)
    ∗ (∃ f, (arg9.view.loc (c : Thread nD τ) ↦[arg9.view.set]{fullShare} f) ∗ ⌜∀ (a : Fin 128) (j : Fin 6144), j.val < 128 * k → arg9.view.read (Elt Ideal) f (ix3 0 a j) = vnS (x4 (ix3 0 a j)) (x6 (ix3 0 a j))⌝)
    ∗ (∃ f, (arg11.view.loc (c : Thread nD τ) ↦[arg11.view.set]{fullShare} f) ∗ ⌜∀ (a : Fin 128) (j : Fin 6144), j.val < 128 * k → arg11.view.read (Elt Ideal) f (ix3 0 a j) = cdS v7 (wnB v1 v3 v5 x3 x4 x5 x6 a j)⌝)
    ∗ (∃ f, (arg12.view.loc (c : Thread nD τ) ↦[arg12.view.set]{fullShare} f) ∗ ⌜∀ (j : Fin 6144) (a : Fin 128), j.val < 128 * k → arg12.view.read (Elt Ideal) f (ix3 0 j a) = cdS v7 (wnB v1 v3 v5 x3 x4 x5 x6 a j)⌝)
    ∗ ⌜AccInv (wnB v1 v3 v5 x3 x4 x5 x6) init acc k⌝)

/-- One trip keeps the invariant. -/
theorem trip (𝒱 : Variants) (c : Dev nD) (bd : Option 𝒱.V) (E : Set ℕ) (i : grid0.Coords) (arg2 : Memref sig .tc .smem S4x3 .f32) (harg2 : arg2.IsWhole) (arg3 : Memref sig .tc .vmem S1x128x6144 .f32) (harg3 : arg3.IsWhole) (arg4 : Memref sig .tc .vmem S1x128x6144 .bf16) (harg4 : arg4.IsWhole) (arg5 : Memref sig .tc .vmem S1x128x6144 .f32) (harg5 : arg5.IsWhole) (arg6 : Memref sig .tc .vmem S1x128x6144 .f32) (harg6 : arg6.IsWhole) (arg7 : Memref sig .tc .vmem S1x128x6144 .f32) (harg7 : arg7.IsWhole) (arg8 : Memref sig .tc .vmem S1x128x6144 .f32) (harg8 : arg8.IsWhole) (arg9 : Memref sig .tc .vmem S1x128x6144 .f32) (harg9 : arg9.IsWhole) (arg10 : Memref sig .tc .smem S3 .f32) (harg10 : arg10.IsWhole) (arg11 : Memref sig .tc .vmem S1x128x6144 .fp8e4m3) (harg11 : arg11.IsWhole) (arg12 : Memref sig .tc .vmem S1x6144x128 .fp8e4m3) (harg12 : arg12.IsWhole) (arg13 : Memref sig .tc .vmem S8x128 .f32) (harg13 : arg13.IsWhole) (v1 v3 v5 v7 : Elt Ideal .f32) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (x3 : FVec Ideal S1x128x6144 .f32) (x4 : FVec Ideal S1x128x6144 .bf16) (x5 x6 : FVec Ideal S1x128x6144 .f32)
    (h3 : arg3.view.read (Elt Ideal) X3 = x3) (h4 : arg4.view.read (Elt Ideal) X4 = x4) (h5 : arg5.view.read (Elt Ideal) X5 = x5) (h6 : arg6.view.read (Elt Ideal) X6 = x6)
    (init : FVec Ideal S8x128 .f32) (k : Fin k0_t1_loop.trips) (acc : Vec Ideal S8x128 .f32) :
    Inv c arg2 harg2 arg3 harg3 arg4 harg4 arg5 harg5 arg6 harg6 arg7 harg7 arg8 harg8 arg9 harg9 arg10 harg10 arg11 harg11 arg12 harg12 arg13 harg13 v1 v3 v5 v7 X3 X4 X5 X6 x3 x4 x5 x6 init k.val acc
      ⊢ wp frame (wpE (defs₀ (F := Ideal)) 𝒱 (c : Thread nD τ) bd) E (k0_t1_body (F := Ideal) i arg2 harg2 arg3 harg3 arg4 harg4 arg5 harg5 arg6 harg6 arg7 harg7 arg8 harg8 arg9 harg9 arg10 harg10 arg11 harg11 arg12 harg12 arg13 harg13 v1 v3 v5 v7 k acc)
        (Inv c arg2 harg2 arg3 harg3 arg4 harg4 arg5 harg5 arg6 harg6 arg7 harg7 arg8 harg8 arg9 harg9 arg10 harg10 arg11 harg11 arg12 harg12 arg13 harg13 v1 v3 v5 v7 X3 X4 X5 X6 x3 x4 x5 x6 init (k.val + 1)) := by
  have hk : k.val < 48 := trip_lt k
  unfold Inv
  unfold k0_t1_body
  iintro ⟨H3, H4, H5, H6, ⟨%X7, H7, %i7⟩, ⟨%X8, H8, %i8⟩, ⟨%X9, H9, %i9⟩, ⟨%X11, H11, %i11⟩, ⟨%X12, H12, %i12⟩, %iacc⟩
  sl_exec
  sl_step
  have hr1 : ∀ (a b : Fin 128), trip.sl.r_1 arg3 arg4 arg5 arg6 v1 v3 v5 X3 X4 X5 X6 k (ix2 a b)
      = wnB v1 v3 v5 x3 x4 x5 x6 a ⟨128 * k.val + b.val, by omega⟩ := by
    intro a b
    unfold trip.sl.r_1
    refine (pay13_at _ _ _ _ _ _ _ a b).trans ?_
    rw [load_at arg3.view X3 x3 h3, load_at arg4.view X4 x4 h4, load_at arg5.view X5 x5 h5, load_at arg6.view X6 x6 h6]
    rfl
  isplitl [H3]; · iexact H3
  isplitl [H4]; · iexact H4
  isplitl [H5]; · iexact H5
  isplitl [H6]; · iexact H6
  isplitl [H7]
  · iexists _
    isplitl [H7]; · iexact H7
    ipureintro
    refine store_chunk arg7.view X7 k _ _ _ i7 fun a b hb => ?_
    rw [pay3_at, hr1]
  isplitl [H8]
  · iexists _
    isplitl [H8]; · iexact H8
    ipureintro
    refine store_chunk arg8.view X8 k _ _ (fun a j => mnS (x4 (ix3 0 a j)) (x5 (ix3 0 a j))) i8 fun a b hb => ?_
    rw [pay14_at, load_at arg4.view X4 x4 h4, load_at arg5.view X5 x5 h5]
  isplitl [H9]
  · iexists _
    isplitl [H9]; · iexact H9
    ipureintro
    refine store_chunk arg9.view X9 k _ _ (fun a j => vnS (x4 (ix3 0 a j)) (x6 (ix3 0 a j))) i9 fun a b hb => ?_
    rw [pay2_at]
    unfold trip.sl.r
    refine (pay12_at _ _ a b).trans ?_
    rw [load_at arg4.view X4 x4 h4, load_at arg6.view X6 x6 h6]
  isplitl [H11]
  · iexists _
    isplitl [H11]; · iexact H11
    ipureintro
    refine store_chunk arg11.view X11 k _ _ (fun a j => cdS v7 (wnB v1 v3 v5 x3 x4 x5 x6 a j)) i11 fun a b hb => ?_
    rw [pay5_at, hr1]
  isplitl [H12]
  · iexists _
    isplitl [H12]; · iexact H12
    ipureintro
    refine store_chunkT arg12.view X12 k _ _ (fun j a => cdS v7 (wnB v1 v3 v5 x3 x4 x5 x6 a j)) i12 fun b a hb => ?_
    rw [pay6_at, hr1]
  ipureintro
  exact iacc.step hk _ hr1

end Cert.KernelIdeal.Val
end
-- ==== Proof.Body.lean ====
/- The kernel body on one block, at the extended reals: what it leaves in each output, in the scratch and in the cell of
   the maximum, in the three cases of a layer's first, middle and last blocks. -/
module

public import proofs.«01_k».proof.Proof.Trip
public import Idealize.ShloMosaic.Lib.CellWrites
public import Idealize.ShloMosaic.Lib.WordCmp

@[expose] public section

set_option maxRecDepth 16384
set_option maxHeartbeats 2000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

local notation "𝕄G" => MT nD τ sig Unit (Elt Ideal) ℕ (UR sig nD τ) ℕ

/-- The condition of the body's first branch: the block is its layer's first. -/
abbrev isFirst (i : grid0.Coords) : Prop := (Scalar.cmpi .ne (Scalar.extui (Scalar.cmpi .eq (BitVec.ofNat 32 (i 1).val) 0#32)) 0#32) = 1#1

/-- The condition of the body's last branch: the block is its layer's last. -/
abbrev isLast (i : grid0.Coords) : Prop := k0_cond2 i = 1#1

/-- The number of a layer, as the body's index words carry it. -/
theorem layer_word : ∀ x : Fin 3, (Scalar.indexCast (BitVec.ofNat 32 x.val)).toNat = x.val := by decide

/-- The body's first scalar is the layer's in the table's row 0. -/
theorem off1_eq (i : grid0.Coords) (b : Fin 3) (hb : (i 0).val = b.val) : k0_off1 i = ![(0 : Fin 4).val, b.val] := by
  unfold k0_off1; rw [hb]; simp only [layer_word b]; rfl

/-- The body's second scalar is the layer's in the table's row 1. -/
theorem off2_eq (i : grid0.Coords) (b : Fin 3) (hb : (i 0).val = b.val) : k0_off2 i = ![(1 : Fin 4).val, b.val] := by
  unfold k0_off2; rw [hb]; simp only [layer_word b]; rfl

/-- The body's third scalar is the layer's in the table's row 2. -/
theorem off3_eq (i : grid0.Coords) (b : Fin 3) (hb : (i 0).val = b.val) : k0_off3 i = ![(2 : Fin 4).val, b.val] := by
  unfold k0_off3; rw [hb]; simp only [layer_word b]; rfl

/-- The body's fourth scalar is the layer's in the table's row 3. -/
theorem off4_eq (i : grid0.Coords) (b : Fin 3) (hb : (i 0).val = b.val) : k0_off4 i = ![(3 : Fin 4).val, b.val] := by
  unfold k0_off4; rw [hb]; simp only [layer_word b]; rfl

/-- The maximum's cell is the layer's. -/
theorem off7_eq (i : grid0.Coords) (b : Fin 3) (hb : (i 0).val = b.val) : k0_off7 i = ![b.val] := by
  unfold k0_off7; rw [hb]; simp only [layer_word b]

section Cells

variable {sp : Space}

/-- One scalar read out of the table. -/
theorem sm_at (v : View sig .tc sp S4x3 .f32) (f : v.ty.Contents (Elt Ideal)) {off : Fin 2 → ℕ}
    (inb : ∀ a, off a + S1x1.size a ≤ S4x3.size a) (r : Fin 4) (b : Fin 3) (h : off = ![r.val, b.val]) (x : S1x1.Idx) :
    v.readAt (Elt Ideal) (Rect.unit (s := S4x3) off S1x1.size inb).toLoadRect f x = v.read (Elt Ideal) f (ix2 r b) := by
  rw [View.readAt_unit v f inb h (by rw [← h]; exact inb)]
  unfold VecWindow.window
  have h0 : (x 0).val = 0 := Nat.lt_one_iff.mp (x 0).isLt
  have h1 : (x 1).val = 0 := Nat.lt_one_iff.mp (x 1).isLt
  refine congrArg (v.read (Elt Ideal) f) (funext fun i => Fin.ext ?_)
  fin_cases i
  · show r.val + 1 * (x 0).val = r.val
    omega
  · show b.val + 1 * (x 1).val = b.val
    omega

/-- The scratch after a store of the whole of it reads what was stored. -/
theorem full_store (v : View sig .tc sp S8x128 .f32) (f : v.ty.Contents (Elt Ideal)) (inb : ∀ a, (![0, 0] : Fin 2 → ℕ) a + S8x128.size a ≤ S8x128.size a)
    (w : FVec Ideal S8x128 .f32) (L : List (View.Piece (Elt Ideal) S8x128 .f32)) :
    v.read (Elt Ideal) (v.writes (Elt Ideal) f ((⟨Rect.unit (s := S8x128) ![0, 0] S8x128.size inb, w⟩ : View.Piece (Elt Ideal) S8x128 .f32) :: L)) = w := by
  funext y
  refine View.read_writes_cons_unit_of_mem v f inb w L y y rfl ?_
  intro a
  fin_cases a
  · exact (Nat.zero_add _).symm
  · exact (Nat.zero_add _).symm

end Cells

/-- The body at a layer's first block: the scratch starts again from zero. -/
theorem run_A (c : Dev nD) (i : grid0.Coords) (arg2 : Memref sig .tc .smem S4x3 .f32) (harg2 : arg2.IsWhole) (arg3 : Memref sig .tc .vmem S1x128x6144 .f32) (harg3 : arg3.IsWhole) (arg4 : Memref sig .tc .vmem S1x128x6144 .bf16) (harg4 : arg4.IsWhole) (arg5 : Memref sig .tc .vmem S1x128x6144 .f32) (harg5 : arg5.IsWhole) (arg6 : Memref sig .tc .vmem S1x128x6144 .f32) (harg6 : arg6.IsWhole) (arg7 : Memref sig .tc .vmem S1x128x6144 .f32) (harg7 : arg7.IsWhole) (arg8 : Memref sig .tc .vmem S1x128x6144 .f32) (harg8 : arg8.IsWhole) (arg9 : Memref sig .tc .vmem S1x128x6144 .f32) (harg9 : arg9.IsWhole) (arg10 : Memref sig .tc .smem S3 .f32) (harg10 : arg10.IsWhole) (arg11 : Memref sig .tc .vmem S1x128x6144 .fp8e4m3) (harg11 : arg11.IsWhole) (arg12 : Memref sig .tc .vmem S1x6144x128 .fp8e4m3) (harg12 : arg12.IsWhole) (arg13 : Memref sig .tc .vmem S8x128 .f32) (harg13 : arg13.IsWhole) (hc0 : isFirst i) (hc1 : ¬isLast i)
    (s : FVec Ideal S4x3 .f32) (x3 : FVec Ideal S1x128x6144 .f32) (x4 : FVec Ideal S1x128x6144 .bf16) (x5 x6 : FVec Ideal S1x128x6144 .f32) (x10 : FVec Ideal S3 .f32) (xs : FVec Ideal S8x128 .f32) (b : Fin 3) (hb : (i 0).val = b.val) (E : Set ℕ) (K : PUnit → sProp 𝕄G) :
    iprop(owns (c : Thread nD τ) arg2 fullShare s ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare x10 ∗ (∃ d, owns (c : Thread nD τ) arg11 fullShare d) ∗ (∃ d, owns (c : Thread nD τ) arg12 fullShare d) ∗ owns (c : Thread nD τ) arg13 fullShare xs
      ∗ (iprop(owns (c : Thread nD τ) arg2 fullShare s ∗ owns (c : Thread nD τ) arg3 fullShare x3 ∗ owns (c : Thread nD τ) arg4 fullShare x4 ∗ owns (c : Thread nD τ) arg5 fullShare x5 ∗ owns (c : Thread nD τ) arg6 fullShare x6 ∗ (∃ d, ⌜∀ (a : Fin 128) (j : Fin 6144), d (ix3 0 a j) = wnB (s (ix2 0 b)) (s (ix2 1 b)) (s (ix2 2 b)) x3 x4 x5 x6 a j⌝ ∗ owns (c : Thread nD τ) arg7 fullShare d) ∗ (∃ d, ⌜∀ (a : Fin 128) (j : Fin 6144), d (ix3 0 a j) = mnS (x4 (ix3 0 a j)) (x5 (ix3 0 a j))⌝ ∗ owns (c : Thread nD τ) arg8 fullShare d) ∗ (∃ d, ⌜∀ (a : Fin 128) (j : Fin 6144), d (ix3 0 a j) = vnS (x4 (ix3 0 a j)) (x6 (ix3 0 a j))⌝ ∗ owns (c : Thread nD τ) arg9 fullShare d) ∗ (∃ d, ⌜∀ (a : Fin 128) (j : Fin 6144), d (ix3 0 a j) = cdS (s (ix2 3 b)) (wnB (s (ix2 0 b)) (s (ix2 1 b)) (s (ix2 2 b)) x3 x4 x5 x6 a j)⌝ ∗ owns (c : Thread nD τ) arg11 fullShare d) ∗ (∃ d, ⌜∀ (j : Fin 6144) (a : Fin 128), d (ix3 0 j a) = cdS (s (ix2 3 b)) (wnB (s (ix2 0 b)) (s (ix2 1 b)) (s (ix2 2 b)) x3 x4 x5 x6 a j)⌝ ∗ owns (c : Thread nD τ) arg12 fullShare d) ∗ (∃ x10' xs', ⌜x10' = x10⌝ ∗ ⌜AccInv (wnB (s (ix2 0 b)) (s (ix2 1 b)) (s (ix2 2 b)) x3 x4 x5 x6) (fun _ => 0) xs' 48⌝ ∗ owns (c : Thread nD τ) arg10 fullShare x10' ∗ owns (c : Thread nD τ) arg13 fullShare xs')) -∗ K ⟨⟩))
      ⊢ wp frame (wpE (defs₀ (F := Ideal)) Variants.none c none) E (cc0_adamw_fp8 (F := Ideal) i arg2 harg2 arg3 harg3 arg4 harg4 arg5 harg5 arg6 harg6 arg7 harg7 arg8 harg8 arg9 harg9 arg10 harg10 arg11 harg11 arg12 harg12 arg13 harg13) K := by
  simp only [cc0_adamw_fp8_eq_skeleton]; unfold cc0_adamw_fp8_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%d11, %f11, -, H11⟩, ⟨%d12, %f12, -, H12⟩, ⟨%f13, %hf13, H13⟩, Hk⟩
  sl_exec (disch := first | sl_exact hc0 | sl_exact hc1)
  have e0 : run_A.sl.r c i arg2 f2 = s (ix2 0 b) := by
    unfold run_A.sl.r
    rw [← hf2]
    exact sm_at arg2.view f2 _ 0 b (off1_eq i b hb) _
  have e1 : run_A.sl.r_1 c i arg2 f2 = s (ix2 1 b) := by
    unfold run_A.sl.r_1
    rw [← hf2]
    exact sm_at arg2.view f2 _ 1 b (off2_eq i b hb) _
  have e2 : run_A.sl.r_2 c i arg2 f2 = s (ix2 2 b) := by
    unfold run_A.sl.r_2
    rw [← hf2]
    exact sm_at arg2.view f2 _ 2 b (off3_eq i b hb) _
  have e3 : run_A.sl.r_3 c i arg2 f2 = s (ix2 3 b) := by
    unfold run_A.sl.r_3
    rw [← hf2]
    exact sm_at arg2.view f2 _ 3 b (off4_eq i b hb) _
  have e11 : ∀ (a : Fin 8) (b : Fin 128), run_A.sl.v11 c arg13 (ix2 a b) = 0 := by
    intro a b
    unfold run_A.sl.v11 run_A.sl.H13_1
    refine (congrFun ((View.readAt_full arg13.view _ _).trans (full_store arg13.view _ _ _ _)) (ix2 a b)).trans ?_
    exact pay1_at a b
  sl_for (Inv c arg2 harg2 arg3 harg3 arg4 harg4 arg5 harg5 arg6 harg6 arg7 harg7 arg8 harg8 arg9 harg9 arg10 harg10 arg11 harg11 arg12 harg12 arg13 harg13 (run_A.sl.r c i arg2 f2) (run_A.sl.r_1 c i arg2 f2) (run_A.sl.r_2 c i arg2 f2) (run_A.sl.r_3 c i arg2 f2) f3 f4 f5 f6 x3 x4 x5 x6 (fun _ => 0)) $$ [H3 H4 H5 H6 H7 H8 H9 H11 H12]
  · intro k acc
    exact trip Variants.none c none E i arg2 harg2 arg3 harg3 arg4 harg4 arg5 harg5 arg6 harg6 arg7 harg7 arg8 harg8 arg9 harg9 arg10 harg10 arg11 harg11 arg12 harg12 arg13 harg13 _ _ _ _ f3 f4 f5 f6 x3 x4 x5 x6 hf3 hf4 hf5 hf6 (fun _ => 0) k acc
  · unfold Inv
    isplitl [H3]; · iexact H3
    isplitl [H4]; · iexact H4
    isplitl [H5]; · iexact H5
    isplitl [H6]; · iexact H6
    isplitl [H7]; · iexists _; isplitl [H7]; · iexact H7
                    ipureintro; intro _ _ h; exact absurd h (Nat.not_lt_zero _)
    isplitl [H8]; · iexists _; isplitl [H8]; · iexact H8
                    ipureintro; intro _ _ h; exact absurd h (Nat.not_lt_zero _)
    isplitl [H9]; · iexists _; isplitl [H9]; · iexact H9
                    ipureintro; intro _ _ h; exact absurd h (Nat.not_lt_zero _)
    isplitl [H11]; · iexists _; isplitl [H11]; · iexact H11
                     ipureintro; intro _ _ h; exact absurd h (Nat.not_lt_zero _)
    isplitl [H12]; · iexists _; isplitl [H12]; · iexact H12
                     ipureintro; intro _ _ h; exact absurd h (Nat.not_lt_zero _)
    ipureintro
    intro a b z
    rw [e11 a b]
    exact ⟨fun h => ⟨h, fun l hl => absurd hl (Nat.not_lt_zero _)⟩, fun h => h.1⟩
  iintro %acc HI
  unfold Inv
  icases HI with ⟨H3, H4, H5, H6, ⟨%g7, H7, %i7⟩, ⟨%g8, H8, %i8⟩, ⟨%g9, H9, %i9⟩, ⟨%g11, H11, %i11⟩, ⟨%g12, H12, %i12⟩, %iacc⟩
  sl_exec (disch := first | sl_exact hc0 | sl_exact hc1)
  have lt48 : ∀ q : Fin 6144, q.val < 128 * Scf.trips k0_t1_loop.lb k0_t1_loop.ub k0_t1_loop.st := fun q =>
    Nat.lt_of_lt_of_eq q.isLt (congrArg (128 * ·) trips_eq).symm
  have iacc : AccInv (wnB (run_A.sl.r c i arg2 f2) (run_A.sl.r_1 c i arg2 f2) (run_A.sl.r_2 c i arg2 f2) x3 x4 x5 x6) (fun _ => 0) acc 48 := trips_eq ▸ iacc
  rw [e0, e1, e2] at iacc i7
  rw [e0, e1, e2, e3] at i11 i12
  sl_step
  iapply Hk
  isplitl [H2]; · iexists f2; isplitl []; · ipureintro; exact hf2
                  iexact H2
  isplitl [H3]; · iexists f3; isplitl []; · ipureintro; exact hf3
                  iexact H3
  isplitl [H4]; · iexists f4; isplitl []; · ipureintro; exact hf4
                  iexact H4
  isplitl [H5]; · iexists f5; isplitl []; · ipureintro; exact hf5
                  iexact H5
  isplitl [H6]; · iexists f6; isplitl []; · ipureintro; exact hf6
                  iexact H6
  isplitl [H7]
  · iexists (arg7.view.read (Elt Ideal) g7); isplitl []
    · ipureintro; intro p q; exact i7 p q (lt48 q)
    · iexists g7; isplitl []; · ipureintro; rfl
      iexact H7
  isplitl [H8]
  · iexists (arg8.view.read (Elt Ideal) g8); isplitl []
    · ipureintro; intro p q; exact i8 p q (lt48 q)
    · iexists g8; isplitl []; · ipureintro; rfl
      iexact H8
  isplitl [H9]
  · iexists (arg9.view.read (Elt Ideal) g9); isplitl []
    · ipureintro; intro p q; exact i9 p q (lt48 q)
    · iexists g9; isplitl []; · ipureintro; rfl
      iexact H9
  isplitl [H11]
  · iexists (arg11.view.read (Elt Ideal) g11); isplitl []
    · ipureintro; intro p q; exact i11 p q (lt48 q)
    · iexists g11; isplitl []; · ipureintro; rfl
      iexact H11
  isplitl [H12]
  · iexists (arg12.view.read (Elt Ideal) g12); isplitl []
    · ipureintro; intro p q; exact i12 p q (lt48 p)
    · iexists g12; isplitl []; · ipureintro; rfl
      iexact H12
  iexists x10, k0_pay8 (F := Ideal) acc
  isplitl []; · ipureintro; rfl
  isplitl []; · ipureintro; rw [pay8_eq]; exact iacc
  isplitl [H10]; · iexists f10; isplitr [H10]; · ipureintro; exact hf10
                   iexact H10
  iexists _; isplitr [H13]
  on_goal 2 => iexact H13
  ipureintro; exact full_store arg13.view _ _ _ _

/-- The body at a block that is neither first nor last: the scratch's running maximum goes on. -/
theorem run_B (c : Dev nD) (i : grid0.Coords) (arg2 : Memref sig .tc .smem S4x3 .f32) (harg2 : arg2.IsWhole) (arg3 : Memref sig .tc .vmem S1x128x6144 .f32) (harg3 : arg3.IsWhole) (arg4 : Memref sig .tc .vmem S1x128x6144 .bf16) (harg4 : arg4.IsWhole) (arg5 : Memref sig .tc .vmem S1x128x6144 .f32) (harg5 : arg5.IsWhole) (arg6 : Memref sig .tc .vmem S1x128x6144 .f32) (harg6 : arg6.IsWhole) (arg7 : Memref sig .tc .vmem S1x128x6144 .f32) (harg7 : arg7.IsWhole) (arg8 : Memref sig .tc .vmem S1x128x6144 .f32) (harg8 : arg8.IsWhole) (arg9 : Memref sig .tc .vmem S1x128x6144 .f32) (harg9 : arg9.IsWhole) (arg10 : Memref sig .tc .smem S3 .f32) (harg10 : arg10.IsWhole) (arg11 : Memref sig .tc .vmem S1x128x6144 .fp8e4m3) (harg11 : arg11.IsWhole) (arg12 : Memref sig .tc .vmem S1x6144x128 .fp8e4m3) (harg12 : arg12.IsWhole) (arg13 : Memref sig .tc .vmem S8x128 .f32) (harg13 : arg13.IsWhole) (hc0 : ¬isFirst i) (hc1 : ¬isLast i)
    (s : FVec Ideal S4x3 .f32) (x3 : FVec Ideal S1x128x6144 .f32) (x4 : FVec Ideal S1x128x6144 .bf16) (x5 x6 : FVec Ideal S1x128x6144 .f32) (x10 : FVec Ideal S3 .f32) (xs : FVec Ideal S8x128 .f32) (b : Fin 3) (hb : (i 0).val = b.val) (E : Set ℕ) (K : PUnit → sProp 𝕄G) :
    iprop(owns (c : Thread nD τ) arg2 fullShare s ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare x10 ∗ (∃ d, owns (c : Thread nD τ) arg11 fullShare d) ∗ (∃ d, owns (c : Thread nD τ) arg12 fullShare d) ∗ owns (c : Thread nD τ) arg13 fullShare xs
      ∗ (iprop(owns (c : Thread nD τ) arg2 fullShare s ∗ owns (c : Thread nD τ) arg3 fullShare x3 ∗ owns (c : Thread nD τ) arg4 fullShare x4 ∗ owns (c : Thread nD τ) arg5 fullShare x5 ∗ owns (c : Thread nD τ) arg6 fullShare x6 ∗ (∃ d, ⌜∀ (a : Fin 128) (j : Fin 6144), d (ix3 0 a j) = wnB (s (ix2 0 b)) (s (ix2 1 b)) (s (ix2 2 b)) x3 x4 x5 x6 a j⌝ ∗ owns (c : Thread nD τ) arg7 fullShare d) ∗ (∃ d, ⌜∀ (a : Fin 128) (j : Fin 6144), d (ix3 0 a j) = mnS (x4 (ix3 0 a j)) (x5 (ix3 0 a j))⌝ ∗ owns (c : Thread nD τ) arg8 fullShare d) ∗ (∃ d, ⌜∀ (a : Fin 128) (j : Fin 6144), d (ix3 0 a j) = vnS (x4 (ix3 0 a j)) (x6 (ix3 0 a j))⌝ ∗ owns (c : Thread nD τ) arg9 fullShare d) ∗ (∃ d, ⌜∀ (a : Fin 128) (j : Fin 6144), d (ix3 0 a j) = cdS (s (ix2 3 b)) (wnB (s (ix2 0 b)) (s (ix2 1 b)) (s (ix2 2 b)) x3 x4 x5 x6 a j)⌝ ∗ owns (c : Thread nD τ) arg11 fullShare d) ∗ (∃ d, ⌜∀ (j : Fin 6144) (a : Fin 128), d (ix3 0 j a) = cdS (s (ix2 3 b)) (wnB (s (ix2 0 b)) (s (ix2 1 b)) (s (ix2 2 b)) x3 x4 x5 x6 a j)⌝ ∗ owns (c : Thread nD τ) arg12 fullShare d) ∗ (∃ x10' xs', ⌜x10' = x10⌝ ∗ ⌜AccInv (wnB (s (ix2 0 b)) (s (ix2 1 b)) (s (ix2 2 b)) x3 x4 x5 x6) xs xs' 48⌝ ∗ owns (c : Thread nD τ) arg10 fullShare x10' ∗ owns (c : Thread nD τ) arg13 fullShare xs')) -∗ K ⟨⟩))
      ⊢ wp frame (wpE (defs₀ (F := Ideal)) Variants.none c none) E (cc0_adamw_fp8 (F := Ideal) i arg2 harg2 arg3 harg3 arg4 harg4 arg5 harg5 arg6 harg6 arg7 harg7 arg8 harg8 arg9 harg9 arg10 harg10 arg11 harg11 arg12 harg12 arg13 harg13) K := by
  simp only [cc0_adamw_fp8_eq_skeleton]; unfold cc0_adamw_fp8_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%d11, %f11, -, H11⟩, ⟨%d12, %f12, -, H12⟩, ⟨%f13, %hf13, H13⟩, Hk⟩
  sl_exec (disch := first | sl_exact hc0 | sl_exact hc1)
  have e0 : run_B.sl.r c i arg2 f2 = s (ix2 0 b) := by
    unfold run_B.sl.r
    rw [← hf2]
    exact sm_at arg2.view f2 _ 0 b (off1_eq i b hb) _
  have e1 : run_B.sl.r_1 c i arg2 f2 = s (ix2 1 b) := by
    unfold run_B.sl.r_1
    rw [← hf2]
    exact sm_at arg2.view f2 _ 1 b (off2_eq i b hb) _
  have e2 : run_B.sl.r_2 c i arg2 f2 = s (ix2 2 b) := by
    unfold run_B.sl.r_2
    rw [← hf2]
    exact sm_at arg2.view f2 _ 2 b (off3_eq i b hb) _
  have e3 : run_B.sl.r_3 c i arg2 f2 = s (ix2 3 b) := by
    unfold run_B.sl.r_3
    rw [← hf2]
    exact sm_at arg2.view f2 _ 3 b (off4_eq i b hb) _
  have e11 : ∀ inb, View.readAt (Elt Ideal) arg13.view (Rect.unit (s := S8x128) ![0, 0] S8x128.size inb).toLoadRect f13 = xs :=
    fun inb => (View.readAt_full arg13.view f13 inb).trans hf13
  sl_for (Inv c arg2 harg2 arg3 harg3 arg4 harg4 arg5 harg5 arg6 harg6 arg7 harg7 arg8 harg8 arg9 harg9 arg10 harg10 arg11 harg11 arg12 harg12 arg13 harg13 (run_B.sl.r c i arg2 f2) (run_B.sl.r_1 c i arg2 f2) (run_B.sl.r_2 c i arg2 f2) (run_B.sl.r_3 c i arg2 f2) f3 f4 f5 f6 x3 x4 x5 x6 xs) $$ [H3 H4 H5 H6 H7 H8 H9 H11 H12]
  · intro k acc
    exact trip Variants.none c none E i arg2 harg2 arg3 harg3 arg4 harg4 arg5 harg5 arg6 harg6 arg7 harg7 arg8 harg8 arg9 harg9 arg10 harg10 arg11 harg11 arg12 harg12 arg13 harg13 _ _ _ _ f3 f4 f5 f6 x3 x4 x5 x6 hf3 hf4 hf5 hf6 xs k acc
  · unfold Inv
    isplitl [H3]; · iexact H3
    isplitl [H4]; · iexact H4
    isplitl [H5]; · iexact H5
    isplitl [H6]; · iexact H6
    isplitl [H7]; · iexists _; isplitl [H7]; · iexact H7
                    ipureintro; intro _ _ h; exact absurd h (Nat.not_lt_zero _)
    isplitl [H8]; · iexists _; isplitl [H8]; · iexact H8
                    ipureintro; intro _ _ h; exact absurd h (Nat.not_lt_zero _)
    isplitl [H9]; · iexists _; isplitl [H9]; · iexact H9
                    ipureintro; intro _ _ h; exact absurd h (Nat.not_lt_zero _)
    isplitl [H11]; · iexists _; isplitl [H11]; · iexact H11
                     ipureintro; intro _ _ h; exact absurd h (Nat.not_lt_zero _)
    isplitl [H12]; · iexists _; isplitl [H12]; · iexact H12
                     ipureintro; intro _ _ h; exact absurd h (Nat.not_lt_zero _)
    ipureintro
    intro a b z
    rw [e11]
    exact ⟨fun h => ⟨h, fun l hl => absurd hl (Nat.not_lt_zero _)⟩, fun h => h.1⟩
  iintro %acc HI
  unfold Inv
  icases HI with ⟨H3, H4, H5, H6, ⟨%g7, H7, %i7⟩, ⟨%g8, H8, %i8⟩, ⟨%g9, H9, %i9⟩, ⟨%g11, H11, %i11⟩, ⟨%g12, H12, %i12⟩, %iacc⟩
  sl_exec (disch := first | sl_exact hc0 | sl_exact hc1)
  have lt48 : ∀ q : Fin 6144, q.val < 128 * Scf.trips k0_t1_loop.lb k0_t1_loop.ub k0_t1_loop.st := fun q =>
    Nat.lt_of_lt_of_eq q.isLt (congrArg (128 * ·) trips_eq).symm
  have iacc : AccInv (wnB (run_B.sl.r c i arg2 f2) (run_B.sl.r_1 c i arg2 f2) (run_B.sl.r_2 c i arg2 f2) x3 x4 x5 x6) xs acc 48 := trips_eq ▸ iacc
  rw [e0, e1, e2] at iacc i7
  rw [e0, e1, e2, e3] at i11 i12
  sl_step
  iapply Hk
  isplitl [H2]; · iexists f2; isplitl []; · ipureintro; exact hf2
                  iexact H2
  isplitl [H3]; · iexists f3; isplitl []; · ipureintro; exact hf3
                  iexact H3
  isplitl [H4]; · iexists f4; isplitl []; · ipureintro; exact hf4
                  iexact H4
  isplitl [H5]; · iexists f5; isplitl []; · ipureintro; exact hf5
                  iexact H5
  isplitl [H6]; · iexists f6; isplitl []; · ipureintro; exact hf6
                  iexact H6
  isplitl [H7]
  · iexists (arg7.view.read (Elt Ideal) g7); isplitl []
    · ipureintro; intro p q; exact i7 p q (lt48 q)
    · iexists g7; isplitl []; · ipureintro; rfl
      iexact H7
  isplitl [H8]
  · iexists (arg8.view.read (Elt Ideal) g8); isplitl []
    · ipureintro; intro p q; exact i8 p q (lt48 q)
    · iexists g8; isplitl []; · ipureintro; rfl
      iexact H8
  isplitl [H9]
  · iexists (arg9.view.read (Elt Ideal) g9); isplitl []
    · ipureintro; intro p q; exact i9 p q (lt48 q)
    · iexists g9; isplitl []; · ipureintro; rfl
      iexact H9
  isplitl [H11]
  · iexists (arg11.view.read (Elt Ideal) g11); isplitl []
    · ipureintro; intro p q; exact i11 p q (lt48 q)
    · iexists g11; isplitl []; · ipureintro; rfl
      iexact H11
  isplitl [H12]
  · iexists (arg12.view.read (Elt Ideal) g12); isplitl []
    · ipureintro; intro p q; exact i12 p q (lt48 p)
    · iexists g12; isplitl []; · ipureintro; rfl
      iexact H12
  iexists x10, k0_pay8 (F := Ideal) acc
  isplitl []; · ipureintro; rfl
  isplitl []; · ipureintro; rw [pay8_eq]; exact iacc
  isplitl [H10]; · iexists f10; isplitr [H10]; · ipureintro; exact hf10
                   iexact H10
  iexists _; isplitr [H13]
  on_goal 2 => iexact H13
  ipureintro; exact full_store arg13.view _ _ _ _

/-- The body at a layer's last block: the five block outputs, the scratch's running maximum, and the layer's cell of the
    maximum, which bounds exactly what the scratch bounds. -/
theorem run_C (c : Dev nD) (i : grid0.Coords) (arg2 : Memref sig .tc .smem S4x3 .f32) (harg2 : arg2.IsWhole) (arg3 : Memref sig .tc .vmem S1x128x6144 .f32) (harg3 : arg3.IsWhole) (arg4 : Memref sig .tc .vmem S1x128x6144 .bf16) (harg4 : arg4.IsWhole) (arg5 : Memref sig .tc .vmem S1x128x6144 .f32) (harg5 : arg5.IsWhole) (arg6 : Memref sig .tc .vmem S1x128x6144 .f32) (harg6 : arg6.IsWhole) (arg7 : Memref sig .tc .vmem S1x128x6144 .f32) (harg7 : arg7.IsWhole) (arg8 : Memref sig .tc .vmem S1x128x6144 .f32) (harg8 : arg8.IsWhole) (arg9 : Memref sig .tc .vmem S1x128x6144 .f32) (harg9 : arg9.IsWhole) (arg10 : Memref sig .tc .smem S3 .f32) (harg10 : arg10.IsWhole) (arg11 : Memref sig .tc .vmem S1x128x6144 .fp8e4m3) (harg11 : arg11.IsWhole) (arg12 : Memref sig .tc .vmem S1x6144x128 .fp8e4m3) (harg12 : arg12.IsWhole) (arg13 : Memref sig .tc .vmem S8x128 .f32) (harg13 : arg13.IsWhole) (hc0 : ¬isFirst i) (hc1 : isLast i)
    (s : FVec Ideal S4x3 .f32) (x3 : FVec Ideal S1x128x6144 .f32) (x4 : FVec Ideal S1x128x6144 .bf16) (x5 x6 : FVec Ideal S1x128x6144 .f32) (x10 : FVec Ideal S3 .f32) (xs : FVec Ideal S8x128 .f32) (b : Fin 3) (hb : (i 0).val = b.val) (E : Set ℕ) (K : PUnit → sProp 𝕄G) :
    iprop(owns (c : Thread nD τ) arg2 fullShare s ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare x10 ∗ (∃ d, owns (c : Thread nD τ) arg11 fullShare d) ∗ (∃ d, owns (c : Thread nD τ) arg12 fullShare d) ∗ owns (c : Thread nD τ) arg13 fullShare xs
      ∗ (iprop(owns (c : Thread nD τ) arg2 fullShare s ∗ owns (c : Thread nD τ) arg3 fullShare x3 ∗ owns (c : Thread nD τ) arg4 fullShare x4 ∗ owns (c : Thread nD τ) arg5 fullShare x5 ∗ owns (c : Thread nD τ) arg6 fullShare x6 ∗ (∃ d, ⌜∀ (a : Fin 128) (j : Fin 6144), d (ix3 0 a j) = wnB (s (ix2 0 b)) (s (ix2 1 b)) (s (ix2 2 b)) x3 x4 x5 x6 a j⌝ ∗ owns (c : Thread nD τ) arg7 fullShare d) ∗ (∃ d, ⌜∀ (a : Fin 128) (j : Fin 6144), d (ix3 0 a j) = mnS (x4 (ix3 0 a j)) (x5 (ix3 0 a j))⌝ ∗ owns (c : Thread nD τ) arg8 fullShare d) ∗ (∃ d, ⌜∀ (a : Fin 128) (j : Fin 6144), d (ix3 0 a j) = vnS (x4 (ix3 0 a j)) (x6 (ix3 0 a j))⌝ ∗ owns (c : Thread nD τ) arg9 fullShare d) ∗ (∃ d, ⌜∀ (a : Fin 128) (j : Fin 6144), d (ix3 0 a j) = cdS (s (ix2 3 b)) (wnB (s (ix2 0 b)) (s (ix2 1 b)) (s (ix2 2 b)) x3 x4 x5 x6 a j)⌝ ∗ owns (c : Thread nD τ) arg11 fullShare d) ∗ (∃ d, ⌜∀ (j : Fin 6144) (a : Fin 128), d (ix3 0 j a) = cdS (s (ix2 3 b)) (wnB (s (ix2 0 b)) (s (ix2 1 b)) (s (ix2 2 b)) x3 x4 x5 x6 a j)⌝ ∗ owns (c : Thread nD τ) arg12 fullShare d) ∗ (∃ x10' xs', ⌜∀ y : Fin 3, (y ≠ b → x10' (ix1 y) = x10 (ix1 y)) ∧ (y = b → ∀ z, x10' (ix1 y) ≤ z ↔ ∀ (a : Fin 8) (b : Fin 128), xs' (ix2 a b) ≤ z)⌝ ∗ ⌜AccInv (wnB (s (ix2 0 b)) (s (ix2 1 b)) (s (ix2 2 b)) x3 x4 x5 x6) xs xs' 48⌝ ∗ owns (c : Thread nD τ) arg10 fullShare x10' ∗ owns (c : Thread nD τ) arg13 fullShare xs')) -∗ K ⟨⟩))
      ⊢ wp frame (wpE (defs₀ (F := Ideal)) Variants.none c none) E (cc0_adamw_fp8 (F := Ideal) i arg2 harg2 arg3 harg3 arg4 harg4 arg5 harg5 arg6 harg6 arg7 harg7 arg8 harg8 arg9 harg9 arg10 harg10 arg11 harg11 arg12 harg12 arg13 harg13) K := by
  simp only [cc0_adamw_fp8_eq_skeleton]; unfold cc0_adamw_fp8_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%d11, %f11, -, H11⟩, ⟨%d12, %f12, -, H12⟩, ⟨%f13, %hf13, H13⟩, Hk⟩
  sl_exec (disch := first | sl_exact hc0 | sl_exact hc1)
  have e0 : run_C.sl.r c i arg2 f2 = s (ix2 0 b) := by
    unfold run_C.sl.r
    rw [← hf2]
    exact sm_at arg2.view f2 _ 0 b (off1_eq i b hb) _
  have e1 : run_C.sl.r_1 c i arg2 f2 = s (ix2 1 b) := by
    unfold run_C.sl.r_1
    rw [← hf2]
    exact sm_at arg2.view f2 _ 1 b (off2_eq i b hb) _
  have e2 : run_C.sl.r_2 c i arg2 f2 = s (ix2 2 b) := by
    unfold run_C.sl.r_2
    rw [← hf2]
    exact sm_at arg2.view f2 _ 2 b (off3_eq i b hb) _
  have e3 : run_C.sl.r_3 c i arg2 f2 = s (ix2 3 b) := by
    unfold run_C.sl.r_3
    rw [← hf2]
    exact sm_at arg2.view f2 _ 3 b (off4_eq i b hb) _
  have e11 : ∀ inb, View.readAt (Elt Ideal) arg13.view (Rect.unit (s := S8x128) ![0, 0] S8x128.size inb).toLoadRect f13 = xs :=
    fun inb => (View.readAt_full arg13.view f13 inb).trans hf13
  sl_for (Inv c arg2 harg2 arg3 harg3 arg4 harg4 arg5 harg5 arg6 harg6 arg7 harg7 arg8 harg8 arg9 harg9 arg10 harg10 arg11 harg11 arg12 harg12 arg13 harg13 (run_C.sl.r c i arg2 f2) (run_C.sl.r_1 c i arg2 f2) (run_C.sl.r_2 c i arg2 f2) (run_C.sl.r_3 c i arg2 f2) f3 f4 f5 f6 x3 x4 x5 x6 xs) $$ [H3 H4 H5 H6 H7 H8 H9 H11 H12]
  · intro k acc
    exact trip Variants.none c none E i arg2 harg2 arg3 harg3 arg4 harg4 arg5 harg5 arg6 harg6 arg7 harg7 arg8 harg8 arg9 harg9 arg10 harg10 arg11 harg11 arg12 harg12 arg13 harg13 _ _ _ _ f3 f4 f5 f6 x3 x4 x5 x6 hf3 hf4 hf5 hf6 xs k acc
  · unfold Inv
    isplitl [H3]; · iexact H3
    isplitl [H4]; · iexact H4
    isplitl [H5]; · iexact H5
    isplitl [H6]; · iexact H6
    isplitl [H7]; · iexists _; isplitl [H7]; · iexact H7
                    ipureintro; intro _ _ h; exact absurd h (Nat.not_lt_zero _)
    isplitl [H8]; · iexists _; isplitl [H8]; · iexact H8
                    ipureintro; intro _ _ h; exact absurd h (Nat.not_lt_zero _)
    isplitl [H9]; · iexists _; isplitl [H9]; · iexact H9
                    ipureintro; intro _ _ h; exact absurd h (Nat.not_lt_zero _)
    isplitl [H11]; · iexists _; isplitl [H11]; · iexact H11
                     ipureintro; intro _ _ h; exact absurd h (Nat.not_lt_zero _)
    isplitl [H12]; · iexists _; isplitl [H12]; · iexact H12
                     ipureintro; intro _ _ h; exact absurd h (Nat.not_lt_zero _)
    ipureintro
    intro a b z
    rw [e11]
    exact ⟨fun h => ⟨h, fun l hl => absurd hl (Nat.not_lt_zero _)⟩, fun h => h.1⟩
  iintro %acc HI
  unfold Inv
  icases HI with ⟨H3, H4, H5, H6, ⟨%g7, H7, %i7⟩, ⟨%g8, H8, %i8⟩, ⟨%g9, H9, %i9⟩, ⟨%g11, H11, %i11⟩, ⟨%g12, H12, %i12⟩, %iacc⟩
  sl_exec (disch := first | sl_exact hc0 | sl_exact hc1)
  have lt48 : ∀ q : Fin 6144, q.val < 128 * Scf.trips k0_t1_loop.lb k0_t1_loop.ub k0_t1_loop.st := fun q =>
    Nat.lt_of_lt_of_eq q.isLt (congrArg (128 * ·) trips_eq).symm
  have iacc : AccInv (wnB (run_C.sl.r c i arg2 f2) (run_C.sl.r_1 c i arg2 f2) (run_C.sl.r_2 c i arg2 f2) x3 x4 x5 x6) xs acc 48 := trips_eq ▸ iacc
  rw [e0, e1, e2] at iacc i7
  rw [e0, e1, e2, e3] at i11 i12
  sl_step
  iapply Hk
  isplitl [H2]; · iexists f2; isplitl []; · ipureintro; exact hf2
                  iexact H2
  isplitl [H3]; · iexists f3; isplitl []; · ipureintro; exact hf3
                  iexact H3
  isplitl [H4]; · iexists f4; isplitl []; · ipureintro; exact hf4
                  iexact H4
  isplitl [H5]; · iexists f5; isplitl []; · ipureintro; exact hf5
                  iexact H5
  isplitl [H6]; · iexists f6; isplitl []; · ipureintro; exact hf6
                  iexact H6
  isplitl [H7]
  · iexists (arg7.view.read (Elt Ideal) g7); isplitl []
    · ipureintro; intro p q; exact i7 p q (lt48 q)
    · iexists g7; isplitl []; · ipureintro; rfl
      iexact H7
  isplitl [H8]
  · iexists (arg8.view.read (Elt Ideal) g8); isplitl []
    · ipureintro; intro p q; exact i8 p q (lt48 q)
    · iexists g8; isplitl []; · ipureintro; rfl
      iexact H8
  isplitl [H9]
  · iexists (arg9.view.read (Elt Ideal) g9); isplitl []
    · ipureintro; intro p q; exact i9 p q (lt48 q)
    · iexists g9; isplitl []; · ipureintro; rfl
      iexact H9
  isplitl [H11]
  · iexists (arg11.view.read (Elt Ideal) g11); isplitl []
    · ipureintro; intro p q; exact i11 p q (lt48 q)
    · iexists g11; isplitl []; · ipureintro; rfl
      iexact H11
  isplitl [H12]
  · iexists (arg12.view.read (Elt Ideal) g12); isplitl []
    · ipureintro; intro p q; exact i12 p q (lt48 p)
    · iexists g12; isplitl []; · ipureintro; rfl
      iexact H12
  iexists (arg10.view.read (Elt Ideal) (arg10.view.writes (Elt Ideal) f10 [⟨Rect.unit (s := S3) (k0_off7 i) S1.size (k0_off7_inb i hc1), fun x => k0_pay9 (F := Ideal) (run_C.sl.v20 c arg13 acc)⟩])), k0_pay8 (F := Ideal) acc
  isplitl []
  · ipureintro
    intro y
    have hw := View.read_writes_cons_cell arg10.view f10 (k0_off7_inb i hc1) (k0_pay9 (F := Ideal) (run_C.sl.v20 c arg13 acc)) [] (ix1 y)
    refine ⟨fun hne => ?_, fun he z => ?_⟩
    · refine hw.trans ((if_neg ?_).trans (congrFun hf10 (ix1 y)))
      rw [off7_eq i b hb]
      exact fun h => hne (Fin.ext h)
    · refine Iff.trans (iff_of_eq (congrArg (· ≤ z) (hw.trans (if_pos ?_)))) ?_
      · rw [off7_eq i b hb, he]; rfl
      · rw [pay9_eq]
        have ev : run_C.sl.v20 c arg13 acc = k0_pay8 (F := Ideal) acc := by
          unfold run_C.sl.v20 run_C.sl.H13_1
          exact (View.readAt_full arg13.view _ _).trans (full_store arg13.view _ _ _ _)
        rw [ev]
  isplitl []; · ipureintro; rw [pay8_eq]; exact iacc
  isplitl [H10]; · iexists _; isplitr [H10]; · ipureintro; rfl
                   iexact H10
  iexists (arg13.view.writes (Elt Ideal) f13 (run_C.sl.H13_1 acc)); isplitr [H13]
  · ipureintro; unfold run_C.sl.H13_1; exact full_store arg13.view _ _ _ _
  · iexact H13

end Cert.KernelIdeal.Val
end
-- ==== Proof.Model.lean ====
/- The blocks the body reads and writes, as elements of the arrays they are cut from, and the new weights as a function of
   the whole arrays. -/
module

public import proofs.«01_k».proof.Proof.Body

@[expose] public section

set_option maxRecDepth 16384
set_option maxHeartbeats 2000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open Idealize.ShloMosaic.Pipeline (Dat)

/-- The grid has 60 points. -/
theorem pt_lt (t : Fin cfg0.N) : t.val < 60 := Nat.lt_of_lt_of_eq t.isLt (show cfg0.N = 60 from N_0)

/-- The layer of a grid point. -/
def lay (t : Fin cfg0.N) : Fin 3 := ⟨t.val / 20, by have := pt_lt t; omega⟩

/-- Row `a` of the block at a grid point, as a row of the layer. -/
def row (t : Fin cfg0.N) (a : Fin 128) : Fin 2560 := ⟨128 * (t.val % 20) + a.val, by omega⟩

/-- The index maps at every point. -/
theorem idx : ∀ t : Fin cfg0.N, win0_0.index t = ![0, 0]
    ∧ win0_1.index t = ![t.val / 20, t.val % 20, 0] ∧ win0_2.index t = ![t.val / 20, t.val % 20, 0]
    ∧ win0_3.index t = ![t.val / 20, t.val % 20, 0] ∧ win0_4.index t = ![t.val / 20, t.val % 20, 0]
    ∧ win0_5.index t = ![t.val / 20, t.val % 20, 0] ∧ win0_6.index t = ![t.val / 20, t.val % 20, 0]
    ∧ win0_7.index t = ![t.val / 20, t.val % 20, 0] ∧ win0_8.index t = ![0]
    ∧ win0_9.index t = ![t.val / 20, t.val % 20, 0] ∧ win0_10.index t = ![t.val / 20, 0, t.val % 20] :=
  (by decide +kernel : ∀ t : Fin grid0.N, _)

/-- The layer of a grid point is its first coordinate. -/
theorem lay_coord : ∀ t : Fin cfg0.N, (grid0.coords t 0).val = (lay t).val :=
  (by decide +kernel : ∀ t : Fin grid0.N, (grid0.coords t 0).val = t.val / 20)

/-- The table's block is the table. -/
theorem blk0_at (F : FVec Ideal S4x3 .f32) (t : Fin cfg0.N) (r : Fin 4) (b : Fin 3) :
    ((cfg0.win 0).blk t).view.read (Elt Ideal) F (ix2 r b : S4x3.Idx) = F (ix2 r b) := by
  blk_ext [idx t]

/-- The block of the weights. -/
theorem blk1_at (F : FVec Ideal S3x2560x6144 .f32) (t : Fin cfg0.N) (a : Fin 128) (j : Fin 6144) :
    ((cfg0.win 1).blk t).view.read (Elt Ideal) F (ix3 (0 : Fin 1) a j : S1x128x6144.Idx) = F (ix3 (lay t) (row t a) j) := by
  blk_ext [idx t, lay, row]

/-- The block of the gradient. -/
theorem blk2_at (F : FVec Ideal S3x2560x6144 .bf16) (t : Fin cfg0.N) (a : Fin 128) (j : Fin 6144) :
    ((cfg0.win 2).blk t).view.read (Elt Ideal) F (ix3 (0 : Fin 1) a j : S1x128x6144.Idx) = F (ix3 (lay t) (row t a) j) := by
  blk_ext [idx t, lay, row]

/-- The block of the first moment. -/
theorem blk3_at (F : FVec Ideal S3x2560x6144 .f32) (t : Fin cfg0.N) (a : Fin 128) (j : Fin 6144) :
    ((cfg0.win 3).blk t).view.read (Elt Ideal) F (ix3 (0 : Fin 1) a j : S1x128x6144.Idx) = F (ix3 (lay t) (row t a) j) := by
  blk_ext [idx t, lay, row]

/-- The block of the second moment. -/
theorem blk4_at (F : FVec Ideal S3x2560x6144 .f32) (t : Fin cfg0.N) (a : Fin 128) (j : Fin 6144) :
    ((cfg0.win 4).blk t).view.read (Elt Ideal) F (ix3 (0 : Fin 1) a j : S1x128x6144.Idx) = F (ix3 (lay t) (row t a) j) := by
  blk_ext [idx t, lay, row]

end Cert.KernelIdeal.Val
end
-- ==== Proof.Point.lean ====
/- What the body leaves at each grid point, as a relation to the whole arrays: the block of every output, and the running
   maximum of a layer's blocks in the scratch. -/
module

public import proofs.«01_k».proof.Proof.Model

@[expose] public section

set_option maxRecDepth 16384
set_option maxHeartbeats 2000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

local notation "𝕄G" => MT nD τ sig Unit (Elt Ideal) ℕ (UR sig nD τ) ℕ

/-! ## The running maximum of a layer -/

/-- The scratch holds the running maximum, over the layer's blocks up to number `k`, of the absolute values `W` at the rows
    congruent to `a` mod 8 and the columns congruent to `b` mod 128, and of zero. -/
def AccQ (W : Fin 2560 → Fin 6144 → EReal) (k : ℕ) (X : FVec Ideal S8x128 .f32) : Prop :=
  ∀ (a : Fin 8) (b : Fin 128) (z : EReal), X (ix2 a b) ≤ z ↔ 0 ≤ z ∧
    ∀ (r : Fin 2560) (j : Fin 6144), r.val / 128 ≤ k → r.val % 8 = a.val → j.val % 128 = b.val → abS (W r j) ≤ z

/-- A layer's first block. -/
theorem AccQ.first {W : Fin 2560 → Fin 6144 → EReal} {WB : Fin 128 → Fin 6144 → EReal} {k : ℕ} {xs : FVec Ideal S8x128 .f32} (hk : k = 0)
    (hW : ∀ (a : Fin 128) (j : Fin 6144) (r : Fin 2560), r.val = 128 * k + a.val → WB a j = W r j)
    (h : AccInv WB (fun _ => 0) xs 48) : AccQ W k xs := by
  intro a b z
  refine (h a b z).trans (and_congr_right fun _ => ⟨fun H r j hr ha hb => ?_, fun H l hl q => ?_⟩)
  · have := H ⟨j.val / 128, by omega⟩ (by show j.val / 128 < 48; omega) ⟨r.val / 8, by omega⟩
    rw [hW _ _ r (by show r.val = 128 * k + (r.val / 8 * 8 + a.val); omega)] at this
    refine le_of_eq_of_le (congrArg (fun j => abS (W r j)) (Fin.ext ?_)) this
    show j.val = 128 * (j.val / 128) + b.val
    omega
  · rw [hW _ _ ⟨128 * k + (q.val * 8 + a.val), by omega⟩ rfl]
    refine H _ _ ?_ ?_ ?_
    · show (128 * k + (q.val * 8 + a.val)) / 128 ≤ k
      omega
    · show (128 * k + (q.val * 8 + a.val)) % 8 = a.val
      omega
    · show (128 * l.val + b.val) % 128 = b.val
      omega

/-- A layer's next block. -/
theorem AccQ.next {W : Fin 2560 → Fin 6144 → EReal} {WB : Fin 128 → Fin 6144 → EReal} {k : ℕ} {x0 xs : FVec Ideal S8x128 .f32} (hk : k < 20)
    (hk0 : k ≠ 0) (hW : ∀ (a : Fin 128) (j : Fin 6144) (r : Fin 2560), r.val = 128 * k + a.val → WB a j = W r j)
    (h0 : AccQ W (k - 1) x0) (h : AccInv WB x0 xs 48) : AccQ W k xs := by
  intro a b z
  refine (h a b z).trans ?_
  rw [h0 a b z, and_assoc]
  refine and_congr_right fun _ => ⟨fun ⟨H0, H⟩ r j hr ha hb => ?_, fun H => ⟨fun r j hr ha hb => H r j (by omega) ha hb, fun l hl q => ?_⟩⟩
  · by_cases hlt : r.val / 128 ≤ k - 1
    · exact H0 r j hlt ha hb
    · have := H ⟨j.val / 128, by omega⟩ (by show j.val / 128 < 48; omega) ⟨r.val % 128 / 8, by omega⟩
      rw [hW _ _ r (by show r.val = 128 * k + (r.val % 128 / 8 * 8 + a.val); omega)] at this
      refine le_of_eq_of_le (congrArg (fun j => abS (W r j)) (Fin.ext ?_)) this
      show j.val = 128 * (j.val / 128) + b.val
      omega
  · rw [hW _ _ ⟨128 * k + (q.val * 8 + a.val), by omega⟩ rfl]
    refine H _ _ ?_ ?_ ?_
    · show (128 * k + (q.val * 8 + a.val)) / 128 ≤ k
      omega
    · show (128 * k + (q.val * 8 + a.val)) % 8 = a.val
      omega
    · show (128 * l.val + b.val) % 128 = b.val
      omega

/-- After a layer's last block the whole scratch bounds exactly what the layer's absolute values bound. -/
theorem AccQ.last {W : Fin 2560 → Fin 6144 → EReal} {xs : FVec Ideal S8x128 .f32} (h : AccQ W 19 xs) (z : EReal) :
    (∀ (a : Fin 8) (b : Fin 128), xs (ix2 a b) ≤ z) ↔ 0 ≤ z ∧ ∀ (r : Fin 2560) (j : Fin 6144), abS (W r j) ≤ z := by
  constructor
  · intro H
    refine ⟨((h 0 0 z).mp (H 0 0)).1, fun r j => ?_⟩
    exact ((h ⟨r.val % 8, by omega⟩ ⟨j.val % 128, by omega⟩ z).mp (H _ _)).2 r j (by omega) rfl rfl
  · intro H a b
    exact (h a b z).mpr ⟨H.1, fun r j _ _ _ => H.2 r j⟩

/-! ## The arrays and the relations -/

variable (m : (ℓ : Loc nD τ sig) → Buf (Elt Ideal) ℓ)

/-- The table of the layers' scalars as the region finds it. -/
def ST (c : Dev nD) : FVec Ideal S4x3 .f32 := V m c (Pipeline.arrRef spec0 0)
/-- The weights as the region finds them. -/
def AW (c : Dev nD) : FVec Ideal S3x2560x6144 .f32 := V m c (Pipeline.arrRef spec0 1)
/-- The gradient as the region finds it. -/
def AG (c : Dev nD) : FVec Ideal S3x2560x6144 .bf16 := V m c (Pipeline.arrRef spec0 2)
/-- The first moment as the region finds it. -/
def AM (c : Dev nD) : FVec Ideal S3x2560x6144 .f32 := V m c (Pipeline.arrRef spec0 3)
/-- The second moment as the region finds it. -/
def AV (c : Dev nD) : FVec Ideal S3x2560x6144 .f32 := V m c (Pipeline.arrRef spec0 4)

/-- The new weight of layer `b` at row `r` and column `j`. -/
def WN (c : Dev nD) (b : Fin 3) (r : Fin 2560) (j : Fin 6144) : EReal :=
  wnS (ST m c (ix2 0 b)) (ST m c (ix2 1 b)) (ST m c (ix2 2 b)) (AW m c (ix3 b r j)) (AG m c (ix3 b r j)) (AM m c (ix3 b r j)) (AV m c (ix3 b r j))

/-- An entry of the block of scalars of a point is the entry of the table of scalars. -/
theorem iblk0_at (c : Dev nD) (t : Fin cfg0.N) (r : Fin 4) (b : Fin 3) : iblk m c 0 t (ix2 r b : S4x3.Idx) = ST m c (ix2 r b) := blk0_at (ST m c) t r b
/-- An entry of the block of weights of a point is the entry of the weights at the layer and row of the point. -/
theorem iblk1_at (c : Dev nD) (t : Fin cfg0.N) (a : Fin 128) (j : Fin 6144) : iblk m c 1 t (ix3 (0 : Fin 1) a j : S1x128x6144.Idx) = AW m c (ix3 (lay t) (row t a) j) := blk1_at (AW m c) t a j
/-- An entry of the block of gradients of a point is the entry of the gradients at the layer and row of the point. -/
theorem iblk2_at (c : Dev nD) (t : Fin cfg0.N) (a : Fin 128) (j : Fin 6144) : iblk m c 2 t (ix3 (0 : Fin 1) a j : S1x128x6144.Idx) = AG m c (ix3 (lay t) (row t a) j) := blk2_at (AG m c) t a j
/-- An entry of the block of first moments of a point is the entry of the first moments at the layer and row of the point. -/
theorem iblk3_at (c : Dev nD) (t : Fin cfg0.N) (a : Fin 128) (j : Fin 6144) : iblk m c 3 t (ix3 (0 : Fin 1) a j : S1x128x6144.Idx) = AM m c (ix3 (lay t) (row t a) j) := blk3_at (AM m c) t a j
/-- An entry of the block of second moments of a point is the entry of the second moments at the layer and row of the point. -/
theorem iblk4_at (c : Dev nD) (t : Fin cfg0.N) (a : Fin 128) (j : Fin 6144) : iblk m c 4 t (ix3 (0 : Fin 1) a j : S1x128x6144.Idx) = AV m c (ix3 (lay t) (row t a) j) := blk4_at (AV m c) t a j

/-- The new weights of a block are the layer's. -/
theorem wnB_eq (c : Dev nD) (t : Fin cfg0.N) (a : Fin 128) (j : Fin 6144) :
    wnB (iblk m c 0 t (ix2 0 (lay t) : S4x3.Idx)) (iblk m c 0 t (ix2 1 (lay t) : S4x3.Idx)) (iblk m c 0 t (ix2 2 (lay t) : S4x3.Idx)) (iblk m c 1 t) (iblk m c 2 t) (iblk m c 3 t) (iblk m c 4 t) a j
      = WN m c (lay t) (row t a) j := by
  unfold wnB WN
  rw [iblk0_at, iblk0_at, iblk0_at, iblk1_at, iblk2_at, iblk3_at, iblk4_at]

/-- What the cell of the maximum holds after point `t`: for every layer whose last block is at `t` or before, the maximum
    of the absolute values of the layer's new weights and of zero. -/
def MaxQ (c : Dev nD) (t : ℕ) (X : FVec Ideal S3 .f32) : Prop :=
  ∀ b : Fin 3, 20 * b.val + 19 ≤ t → ∀ z : EReal, X (ix1 b) ≤ z ↔ 0 ≤ z ∧ ∀ (r : Fin 2560) (j : Fin 6144), abS (WN m c b r j) ≤ z

/-- What the body leaves in each output window at point `t`. -/
def Rl (c : Dev nD) (w : Fin cfg0.W) (t : Fin cfg0.N) : ((cfg0.win w).block.Idx → Elt Ideal (cfg0.win w).elt) → Prop :=
  match w with
  | ⟨5, _⟩ => fun X : FVec Ideal S1x128x6144 .f32 => ∀ (a : Fin 128) (j : Fin 6144), X (ix3 0 a j) = WN m c (lay t) (row t a) j
  | ⟨6, _⟩ => fun X : FVec Ideal S1x128x6144 .f32 => ∀ (a : Fin 128) (j : Fin 6144), X (ix3 0 a j) = mnS (AG m c (ix3 (lay t) (row t a) j)) (AM m c (ix3 (lay t) (row t a) j))
  | ⟨7, _⟩ => fun X : FVec Ideal S1x128x6144 .f32 => ∀ (a : Fin 128) (j : Fin 6144), X (ix3 0 a j) = vnS (AG m c (ix3 (lay t) (row t a) j)) (AV m c (ix3 (lay t) (row t a) j))
  | ⟨8, _⟩ => fun X : FVec Ideal S3 .f32 => MaxQ m c t.val X
  | ⟨9, _⟩ => fun X : FVec Ideal S1x128x6144 .fp8e4m3 => ∀ (a : Fin 128) (j : Fin 6144), X (ix3 0 a j) = cdS (ST m c (ix2 3 (lay t))) (WN m c (lay t) (row t a) j)
  | ⟨10, _⟩ => fun X : FVec Ideal S1x6144x128 .fp8e4m3 => ∀ (j : Fin 6144) (a : Fin 128), X (ix3 0 j a) = cdS (ST m c (ix2 3 (lay t))) (WN m c (lay t) (row t a) j)
  | _ => fun _ => True

/-- What the scratch holds after point `t`. -/
def AccP (c : Dev nD) (t : Fin cfg0.N) (X : FVec Ideal S8x128 .f32) : Prop := AccQ (WN m c (lay t)) (t.val % 20) X

/-! Each window's current staging buffer at a point. -/
abbrev ms_0 (t : Fin cfg0.N) : Memref sig .tc .smem S4x3 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x128x6144 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x128x6144 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x128x6144 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x128x6144 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x128x6144 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x128x6144 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x128x6144 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .smem S3 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S1x128x6144 .fp8e4m3 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S1x6144x128 .fp8e4m3 := win0_10.stage (cfg0.slots t 10)
abbrev hs_10 (t : Fin cfg0.N) : (ms_10 t).IsWhole := hstage0_10 ((cfg0.slots t 10).cast nbuf0_10)
/-- The scratch. -/
abbrev scM : Memref sig .tc .vmem S8x128 .f32 := Memref.whole cc0_scratch0

/-- The body's first branch is taken at a layer's first block. -/
theorem first_iff : ∀ t : Fin cfg0.N, isFirst (grid0.coords t) ↔ t.val % 20 = 0 :=
  (fun t => by
    have ht : t.val < 60 := Nat.lt_of_lt_of_eq t.isLt N_0
    have e0 : (grid0.coords t 0).val = t.val / 20 % 3 := Pipeline.Grid.coords_val t 0 (by decide) rfl
    have e1 : (grid0.coords t 1).val = t.val / 1 % 20 := Pipeline.Grid.coords_val t 1 (by decide) rfl
    simp only [isFirst, e0, e1]
    word_cmp
   : ∀ t : Fin grid0.N, isFirst (grid0.coords t) ↔ t.val % 20 = 0)

/-- The body's last branch is taken at a layer's last block. -/
theorem last_iff : ∀ t : Fin cfg0.N, isLast (grid0.coords t) ↔ t.val % 20 = 19 :=
  (fun t => by
    have ht : t.val < 60 := Nat.lt_of_lt_of_eq t.isLt N_0
    have e0 : (grid0.coords t 0).val = t.val / 20 % 3 := Pipeline.Grid.coords_val t 0 (by decide) rfl
    have e1 : (grid0.coords t 1).val = t.val / 1 % 20 := Pipeline.Grid.coords_val t 1 (by decide) rfl
    simp only [isLast, k0_cond2, e0, e1]
    word_cmp
   : ∀ t : Fin grid0.N, isLast (grid0.coords t) ↔ t.val % 20 = 19)

/-- At a layer's last block the layer's cell takes the layer's maximum and the cells of the layers before are kept. -/
theorem last_cell (c : Dev nD) (t : Fin cfg0.N) (x10 x10' : FVec Ideal S3 .f32) (xs' : FVec Ideal S8x128 .f32) (h1 : t.val % 20 = 19)
    (hx : t.val ≠ 0 → MaxQ m c (t.val - 1) x10)
    (h8 : ∀ y : Fin 3, (y ≠ lay t → x10' (ix1 y) = x10 (ix1 y)) ∧ (y = lay t → ∀ z, x10' (ix1 y) ≤ z ↔ ∀ (a : Fin 8) (b : Fin 128), xs' (ix2 a b) ≤ z))
    (hq : AccQ (WN m c (lay t)) 19 xs') : MaxQ m c t.val x10' := by
  have hl : (lay t).val = t.val / 20 := rfl
  intro b hb z
  by_cases he : b = lay t
  · subst he
    exact ((h8 (lay t)).2 rfl z).trans (hq.last z)
  · rw [(h8 b).1 he]
    exact hx (by omega) b (by have : b.val ≠ t.val / 20 := fun e => he (Fin.ext e); omega) z

/-- One point: from the blocks of the inputs, the scratch at what the layer's blocks before left in it, and the cells of the
    maximum at what the points before left in them, the body leaves in every output and in the scratch what it should. -/
theorem body_step (c : Dev nD) (t : Fin cfg0.N) (x10 : FVec Ideal S3 .f32) (xs : FVec Ideal S8x128 .f32)
    (hx : t.val ≠ 0 → MaxQ m c (t.val - 1) x10) (hs : t.val % 20 ≠ 0 → AccQ (WN m c (lay t)) (t.val % 20 - 1) xs) (K : PUnit → sProp 𝕄G) :
    iprop(owns (c : Thread nD τ) (ms_0 t) fullShare (iblk m c 0 t) ∗ owns (c : Thread nD τ) (ms_1 t) fullShare (iblk m c 1 t) ∗ owns (c : Thread nD τ) (ms_2 t) fullShare (iblk m c 2 t) ∗ owns (c : Thread nD τ) (ms_3 t) fullShare (iblk m c 3 t) ∗ owns (c : Thread nD τ) (ms_4 t) fullShare (iblk m c 4 t) ∗ (∃ d, owns (c : Thread nD τ) (ms_5 t) fullShare d) ∗ (∃ d, owns (c : Thread nD τ) (ms_6 t) fullShare d) ∗ (∃ d, owns (c : Thread nD τ) (ms_7 t) fullShare d) ∗ owns (c : Thread nD τ) (ms_8 t) fullShare x10 ∗ (∃ d, owns (c : Thread nD τ) (ms_9 t) fullShare d) ∗ (∃ d, owns (c : Thread nD τ) (ms_10 t) fullShare d) ∗ owns (c : Thread nD τ) scM fullShare xs ∗ (iprop(owns (c : Thread nD τ) (ms_0 t) fullShare (iblk m c 0 t) ∗ owns (c : Thread nD τ) (ms_1 t) fullShare (iblk m c 1 t) ∗ owns (c : Thread nD τ) (ms_2 t) fullShare (iblk m c 2 t) ∗ owns (c : Thread nD τ) (ms_3 t) fullShare (iblk m c 3 t) ∗ owns (c : Thread nD τ) (ms_4 t) fullShare (iblk m c 4 t) ∗ (∃ X, ⌜Rl m c 5 t X⌝ ∗ owns (c : Thread nD τ) (ms_5 t) fullShare X) ∗ (∃ X, ⌜Rl m c 6 t X⌝ ∗ owns (c : Thread nD τ) (ms_6 t) fullShare X) ∗ (∃ X, ⌜Rl m c 7 t X⌝ ∗ owns (c : Thread nD τ) (ms_7 t) fullShare X) ∗ (∃ X, ⌜Rl m c 8 t X⌝ ∗ owns (c : Thread nD τ) (ms_8 t) fullShare X) ∗ (∃ X, ⌜Rl m c 9 t X⌝ ∗ owns (c : Thread nD τ) (ms_9 t) fullShare X) ∗ (∃ X, ⌜Rl m c 10 t X⌝ ∗ owns (c : Thread nD τ) (ms_10 t) fullShare X) ∗ (∃ X, ⌜AccP m c t X⌝ ∗ owns (c : Thread nD τ) scM fullShare X)) -∗ K ⟨⟩))
      ⊢ wp frame (wpE (defs₀ (F := Ideal)) Variants.none c none) Set.univ (bodyAt0 t) K := by
  have ht := pt_lt t
  have keep : ¬t.val % 20 = 19 → MaxQ m c t.val x10 := fun h1 b hb => hx (by omega) b (by omega)
  unfold bodyAt0
  by_cases h0 : t.val % 20 = 0
  · have h1 : ¬t.val % 20 = 19 := by omega
    iintro ⟨H0, H1, H2, H3, H4, H5, H6, H7, H8, H9, H10, HS, Hk⟩
    iapply (run_A c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) scM (Memref.isWhole_whole _) ((first_iff t).mpr h0) (fun h => h1 ((last_iff t).mp h)) (iblk m c 0 t) (iblk m c 1 t) (iblk m c 2 t) (iblk m c 3 t) (iblk m c 4 t) x10 xs (lay t) (lay_coord t) Set.univ K)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, ⟨%d5, %h5, H5⟩, ⟨%d6, %h6, H6⟩, ⟨%d7, %h7, H7⟩, ⟨%d9, %h9, H9⟩, ⟨%d10, %h10, H10⟩, ⟨%x10', %xs', %h8, %hacc, H8, HS⟩⟩
    iapply Hk
    isplitl [H0]; · iexact H0
    isplitl [H1]; · iexact H1
    isplitl [H2]; · iexact H2
    isplitl [H3]; · iexact H3
    isplitl [H4]; · iexact H4
    isplitl [H5]
    · iexists d5; isplitr [H5]
      · ipureintro; exact fun a j => (h5 a j).trans (wnB_eq m c t a j)
      · iexact H5
    isplitl [H6]
    · iexists d6; isplitr [H6]
      · ipureintro; exact fun a j => (h6 a j).trans (by rw [iblk2_at, iblk3_at])
      · iexact H6
    isplitl [H7]
    · iexists d7; isplitr [H7]
      · ipureintro; exact fun a j => (h7 a j).trans (by rw [iblk2_at, iblk4_at])
      · iexact H7
    isplitl [H8]
    · iexists x10'; isplitr [H8]
      · ipureintro; subst h8; exact keep h1
      · iexact H8
    isplitl [H9]
    · iexists d9; isplitr [H9]
      · ipureintro; exact fun a j => (h9 a j).trans (by rw [iblk0_at, wnB_eq])
      · iexact H9
    isplitl [H10]
    · iexists d10; isplitr [H10]
      · ipureintro; exact fun j a => (h10 j a).trans (by rw [iblk0_at, wnB_eq])
      · iexact H10
    iexists xs'; isplitr [HS]
    · ipureintro; exact AccQ.first h0 (fun a j r hr => (wnB_eq m c t a j).trans (congrArg (fun r => WN m c (lay t) r j) (Fin.ext hr.symm))) hacc
    · iexact HS
  · by_cases h1 : t.val % 20 = 19
    · have hq : AccQ (WN m c (lay t)) (t.val % 20) = AccQ (WN m c (lay t)) 19 := by rw [h1]
      iintro ⟨H0, H1, H2, H3, H4, H5, H6, H7, H8, H9, H10, HS, Hk⟩
      iapply (run_C c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) scM (Memref.isWhole_whole _) (fun h => h0 ((first_iff t).mp h)) ((last_iff t).mpr h1) (iblk m c 0 t) (iblk m c 1 t) (iblk m c 2 t) (iblk m c 3 t) (iblk m c 4 t) x10 xs (lay t) (lay_coord t) Set.univ K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      iintro ⟨H0, H1, H2, H3, H4, ⟨%d5, %h5, H5⟩, ⟨%d6, %h6, H6⟩, ⟨%d7, %h7, H7⟩, ⟨%d9, %h9, H9⟩, ⟨%d10, %h10, H10⟩, ⟨%x10', %xs', %h8, %hacc, H8, HS⟩⟩
      iapply Hk
      isplitl [H0]; · iexact H0
      isplitl [H1]; · iexact H1
      isplitl [H2]; · iexact H2
      isplitl [H3]; · iexact H3
      isplitl [H4]; · iexact H4
      isplitl [H5]
      · iexists d5; isplitr [H5]
        · ipureintro; exact fun a j => (h5 a j).trans (wnB_eq m c t a j)
        · iexact H5
      isplitl [H6]
      · iexists d6; isplitr [H6]
        · ipureintro; exact fun a j => (h6 a j).trans (by rw [iblk2_at, iblk3_at])
        · iexact H6
      isplitl [H7]
      · iexists d7; isplitr [H7]
        · ipureintro; exact fun a j => (h7 a j).trans (by rw [iblk2_at, iblk4_at])
        · iexact H7
      isplitl [H8]
      · iexists x10'; isplitr [H8]
        · ipureintro; exact last_cell m c t x10 x10' xs' h1 hx h8 (hq ▸ AccQ.next (by omega) h0 (fun a j r hr => (wnB_eq m c t a j).trans (congrArg (fun r => WN m c (lay t) r j) (Fin.ext hr.symm))) (hs h0) hacc)
        · iexact H8
      isplitl [H9]
      · iexists d9; isplitr [H9]
        · ipureintro; exact fun a j => (h9 a j).trans (by rw [iblk0_at, wnB_eq])
        · iexact H9
      isplitl [H10]
      · iexists d10; isplitr [H10]
        · ipureintro; exact fun j a => (h10 j a).trans (by rw [iblk0_at, wnB_eq])
        · iexact H10
      iexists xs'; isplitr [HS]
      · ipureintro; exact AccQ.next (by omega) h0 (fun a j r hr => (wnB_eq m c t a j).trans (congrArg (fun r => WN m c (lay t) r j) (Fin.ext hr.symm))) (hs h0) hacc
      · iexact HS
    · skip
      iintro ⟨H0, H1, H2, H3, H4, H5, H6, H7, H8, H9, H10, HS, Hk⟩
      iapply (run_B c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) scM (Memref.isWhole_whole _) (fun h => h0 ((first_iff t).mp h)) (fun h => h1 ((last_iff t).mp h)) (iblk m c 0 t) (iblk m c 1 t) (iblk m c 2 t) (iblk m c 3 t) (iblk m c 4 t) x10 xs (lay t) (lay_coord t) Set.univ K)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS]; · iexact HS
      iintro ⟨H0, H1, H2, H3, H4, ⟨%d5, %h5, H5⟩, ⟨%d6, %h6, H6⟩, ⟨%d7, %h7, H7⟩, ⟨%d9, %h9, H9⟩, ⟨%d10, %h10, H10⟩, ⟨%x10', %xs', %h8, %hacc, H8, HS⟩⟩
      iapply Hk
      isplitl [H0]; · iexact H0
      isplitl [H1]; · iexact H1
      isplitl [H2]; · iexact H2
      isplitl [H3]; · iexact H3
      isplitl [H4]; · iexact H4
      isplitl [H5]
      · iexists d5; isplitr [H5]
        · ipureintro; exact fun a j => (h5 a j).trans (wnB_eq m c t a j)
        · iexact H5
      isplitl [H6]
      · iexists d6; isplitr [H6]
        · ipureintro; exact fun a j => (h6 a j).trans (by rw [iblk2_at, iblk3_at])
        · iexact H6
      isplitl [H7]
      · iexists d7; isplitr [H7]
        · ipureintro; exact fun a j => (h7 a j).trans (by rw [iblk2_at, iblk4_at])
        · iexact H7
      isplitl [H8]
      · iexists x10'; isplitr [H8]
        · ipureintro; subst h8; exact keep h1
        · iexact H8
      isplitl [H9]
      · iexists d9; isplitr [H9]
        · ipureintro; exact fun a j => (h9 a j).trans (by rw [iblk0_at, wnB_eq])
        · iexact H9
      isplitl [H10]
      · iexists d10; isplitr [H10]
        · ipureintro; exact fun j a => (h10 j a).trans (by rw [iblk0_at, wnB_eq])
        · iexact H10
      iexists xs'; isplitr [HS]
      · ipureintro; exact AccQ.next (by omega) h0 (fun a j r hr => (wnB_eq m c t a j).trans (congrArg (fun r => WN m c (lay t) r j) (Fin.ext hr.symm))) (hs h0) hacc
      · iexact HS

end Cert.KernelIdeal.Val
end
-- ==== Proof.Run.lean ====
/- The run of the kernel at the extended reals: every execution ends with the counters at zero, the arguments unchanged and
   every output array filled, block by block, with contents in the relations of Point.lean. -/
module

public import proofs.«01_k».proof.Proof.Point
public import Idealize.ShloMosaic.Lib.Pipeline.DatRel
public import Idealize.ShloMosaic.Lib.Pipeline.ArrRel
public import Idealize.ShloMosaic.Lib.Pipeline.FrameBody

@[expose] public section

set_option maxRecDepth 16384
set_option maxHeartbeats 2000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationRel)

local notation "𝕄G" => MT nD τ sig Unit (Elt Ideal) ℕ (UR sig nD τ) ℕ

variable (m : (ℓ : Loc nD τ sig) → Buf (Elt Ideal) ℓ) (ρ : Dev nD → PrngReg)

/-- The region's invariant before position `n`: before the first point the scratch at anything; afterwards at a running
    maximum of the layer of the point before. -/
def PhiS (c : Dev nD) : (n : ℕ) → n ≤ cfg0.N → sProp 𝕄G
  | 0, _ => Pipeline.ΦA spec0 c
  | n + 1, hn => iprop((∃ X, ⌜AccP m c ⟨n, hn⟩ X⌝ ∗ owns (c : Thread nD τ) scM fullShare X) ∗ (∃ r, prngReg c r))

/-- Before the first point the invariant is the one of the launch. -/
theorem PhiS_zero (c : Dev nD) (n : ℕ) (h : n ≤ cfg0.N) (hz : n = 0) : PhiS m c n h = Pipeline.ΦA spec0 c := by
  subst hz; rfl

/-- After a point the invariant, with the point named. -/
theorem PhiS_succ (c : Dev nD) (n : ℕ) (hn : n < cfg0.N) :
    PhiS m c (n + 1) hn = iprop((∃ X, ⌜AccP m c ⟨n, hn⟩ X⌝ ∗ owns (c : Thread nD τ) scM fullShare X) ∗ (∃ r, prngReg c r)) := rfl

/-- At a positive number of points the invariant is the one after a point. -/
theorem PhiS_pos (c : Dev nD) (n : ℕ) (h : n ≤ cfg0.N) (hz : n ≠ 0) :
    PhiS m c n h = iprop((∃ X, ⌜AccP m c ⟨n - 1, by omega⟩ X⌝ ∗ owns (c : Thread nD τ) scM fullShare X) ∗ (∃ r, prngReg c r)) := by
  cases n with
  | zero => exact absurd rfl hz
  | succ n => rfl

/-- The scratch and the generator register as the region's first invariant holds them. -/
theorem PhiA_eq (c : Dev nD) :
    (Pipeline.ΦA spec0 c : sProp 𝕄G)
      = iprop(iprop((∃ d, owns (c : Thread nD τ) scM fullShare d)) ∗ (∃ r, prngReg c r)) := by
  unfold Pipeline.ΦA; rw [scopedRest0_eq]; simp only [scM, owns_whole]; try rfl

/-- The output windows. -/
def outs : Fin 11 → Bool := fun w => w.val == 5 || w.val == 6 || w.val == 7 || w.val == 8 || w.val == 9 || w.val == 10

/-- The proof data: the arrays as the region finds them, each input's buffer at its block, the outputs held to `Rl`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ t := PhiS m c t.val (Nat.le_of_lt_succ t.isLt)
  q _ := fullShare
  owed _ := 0

/-- The arrays of the proof data are those the region finds. -/
theorem A_eq (c : Dev nD) (w : Fin cfg0.W) : (dats m 0 c).A w = V m c (Pipeline.arrRef spec0 w) := by
  dsimp only [dats]

/-- The invariant before a point, by the number of points before it. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- The block of input 0 after a point is the block of its array. -/
theorem after_0 (c : Dev nD) (t : Fin cfg0.N) : (dats m 0 c).after 0 t = iblk m c 0 t := by dsimp only [dats]
/-- The block of input 0 before a point is the block of its array. -/
theorem before_0 (c : Dev nD) (t : Fin cfg0.N) (d) : (dats m 0 c).before 0 t d = iblk m c 0 t :=
  before0_0_of m (dats m 0 c) (A_eq m c 0) (after_0 m c) t d
/-- The block of input 1 after a point is the block of its array. -/
theorem after_1 (c : Dev nD) (t : Fin cfg0.N) : (dats m 0 c).after 1 t = iblk m c 1 t := by dsimp only [dats]
/-- The block of input 1 before a point is the block of its array. -/
theorem before_1 (c : Dev nD) (t : Fin cfg0.N) (d) : (dats m 0 c).before 1 t d = iblk m c 1 t :=
  before0_1_of m (dats m 0 c) (A_eq m c 1) (after_1 m c) t d
/-- The block of input 2 after a point is the block of its array. -/
theorem after_2 (c : Dev nD) (t : Fin cfg0.N) : (dats m 0 c).after 2 t = iblk m c 2 t := by dsimp only [dats]
/-- The block of input 2 before a point is the block of its array. -/
theorem before_2 (c : Dev nD) (t : Fin cfg0.N) (d) : (dats m 0 c).before 2 t d = iblk m c 2 t :=
  before0_2_of m (dats m 0 c) (A_eq m c 2) (after_2 m c) t d
/-- The block of input 3 after a point is the block of its array. -/
theorem after_3 (c : Dev nD) (t : Fin cfg0.N) : (dats m 0 c).after 3 t = iblk m c 3 t := by dsimp only [dats]
/-- The block of input 3 before a point is the block of its array. -/
theorem before_3 (c : Dev nD) (t : Fin cfg0.N) (d) : (dats m 0 c).before 3 t d = iblk m c 3 t :=
  before0_3_of m (dats m 0 c) (A_eq m c 3) (after_3 m c) t d
/-- The block of input 4 after a point is the block of its array. -/
theorem after_4 (c : Dev nD) (t : Fin cfg0.N) : (dats m 0 c).after 4 t = iblk m c 4 t := by dsimp only [dats]
/-- The block of input 4 before a point is the block of its array. -/
theorem before_4 (c : Dev nD) (t : Fin cfg0.N) (d) : (dats m 0 c).before 4 t d = iblk m c 4 t :=
  before0_4_of m (dats m 0 c) (A_eq m c 4) (after_4 m c) t d

/-- The cells of the maximum are handed from point to point: after the first point the body finds what the point before left. -/
theorem finds8 {c : Dev nD} (dat : Dat τ (Elt Ideal) Unit ℕ (UR sig nD τ) ℕ cfg0 c) (t : Fin cfg0.N) (Y : FVec Ideal S3 .f32) (ht : t.val ≠ 0)
    (h : (dat.toRRel outs (Rl m c)).Finds 8 t Y) : MaxQ m c (t.val - 1) Y := by
  have hlt := pt_lt t
  rcases ((dat.toRRel outs (Rl m c)).finds_of_pos (w := 8) rfl ht Y).mp h with hf | hL
  · exact absurd ((flush0_8 _).mp hf) (by show ¬(t.val - 1) % 60 = 59; omega)
  · exact dat.toRRel_leaves (fgt := outs) (Rl := Rl m c) (w := 8) rfl hL

/-- What the point before left in the scratch, for a point that is not its layer's first. -/
theorem prev (c : Dev nD) (t : Fin cfg0.N) (xs : FVec Ideal S8x128 .f32) (hz : t.val ≠ 0) (h : t.val % 20 ≠ 0)
    (hx : AccP m c ⟨t.val - 1, Nat.lt_of_le_of_lt (Nat.sub_le _ _) t.isLt⟩ xs) : AccQ (WN m c (lay t)) (t.val % 20 - 1) xs := by
  unfold AccP at hx
  have e : lay ⟨t.val - 1, Nat.lt_of_le_of_lt (Nat.sub_le _ _) t.isLt⟩ = lay t := Fin.ext (by show (t.val - 1) / 20 = t.val / 20; omega)
  have e' : (t.val - 1) % 20 = t.val % 20 - 1 := by omega
  rw [e] at hx
  exact e' ▸ hx

/-- What the body is called with at point `t`. -/
def bodyPre (c : Dev nD) (t : Fin cfg0.N) : sProp 𝕄G :=
  iprop((dats m 0 c).Φ t.castSucc ∗ (dats m 0 c).owesAt () t.castSucc ∗ (∃ d, owns (c : Thread nD τ) (ms_0 t) fullShare ((dats m 0 c).before 0 t d)) ∗ (∃ d, owns (c : Thread nD τ) (ms_1 t) fullShare ((dats m 0 c).before 1 t d)) ∗ (∃ d, owns (c : Thread nD τ) (ms_2 t) fullShare ((dats m 0 c).before 2 t d)) ∗ (∃ d, owns (c : Thread nD τ) (ms_3 t) fullShare ((dats m 0 c).before 3 t d)) ∗ (∃ d, owns (c : Thread nD τ) (ms_4 t) fullShare ((dats m 0 c).before 4 t d)) ∗ (∃ Y, ⌜((dats m 0 c).toRRel outs (Rl m c)).Finds 5 t Y⌝ ∗ owns (c : Thread nD τ) (ms_5 t) fullShare Y) ∗ (∃ Y, ⌜((dats m 0 c).toRRel outs (Rl m c)).Finds 6 t Y⌝ ∗ owns (c : Thread nD τ) (ms_6 t) fullShare Y) ∗ (∃ Y, ⌜((dats m 0 c).toRRel outs (Rl m c)).Finds 7 t Y⌝ ∗ owns (c : Thread nD τ) (ms_7 t) fullShare Y) ∗ (∃ Y, ⌜((dats m 0 c).toRRel outs (Rl m c)).Finds 8 t Y⌝ ∗ owns (c : Thread nD τ) (ms_8 t) fullShare Y) ∗ (∃ Y, ⌜((dats m 0 c).toRRel outs (Rl m c)).Finds 9 t Y⌝ ∗ owns (c : Thread nD τ) (ms_9 t) fullShare Y) ∗ (∃ Y, ⌜((dats m 0 c).toRRel outs (Rl m c)).Finds 10 t Y⌝ ∗ owns (c : Thread nD τ) (ms_10 t) fullShare Y))

/-- What the body returns at point `t`. -/
def bodyPost (c : Dev nD) (t : Fin cfg0.N) : sProp 𝕄G :=
  iprop((dats m 0 c).Φ t.succ ∗ (dats m 0 c).owesAt () t.succ ∗ owns (c : Thread nD τ) (ms_0 t) fullShare ((dats m 0 c).after 0 t) ∗ owns (c : Thread nD τ) (ms_1 t) fullShare ((dats m 0 c).after 1 t) ∗ owns (c : Thread nD τ) (ms_2 t) fullShare ((dats m 0 c).after 2 t) ∗ owns (c : Thread nD τ) (ms_3 t) fullShare ((dats m 0 c).after 3 t) ∗ owns (c : Thread nD τ) (ms_4 t) fullShare ((dats m 0 c).after 4 t) ∗ (∃ X, ⌜Rl m c 5 t X⌝ ∗ owns (c : Thread nD τ) (ms_5 t) fullShare X) ∗ (∃ X, ⌜Rl m c 6 t X⌝ ∗ owns (c : Thread nD τ) (ms_6 t) fullShare X) ∗ (∃ X, ⌜Rl m c 7 t X⌝ ∗ owns (c : Thread nD τ) (ms_7 t) fullShare X) ∗ (∃ X, ⌜Rl m c 8 t X⌝ ∗ owns (c : Thread nD τ) (ms_8 t) fullShare X) ∗ (∃ X, ⌜Rl m c 9 t X⌝ ∗ owns (c : Thread nD τ) (ms_9 t) fullShare X) ∗ (∃ X, ⌜Rl m c 10 t X⌝ ∗ owns (c : Thread nD τ) (ms_10 t) fullShare X))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before_0, before_1, before_2, before_3, before_4, after_0, after_1, after_2, after_3, after_4]
  rw [show (dats m 0 c).owesAt () t.succ = (dats m 0 c).owesAt () t.castSucc from rfl]
  rw [show (dats m 0 c).Φ t.succ = PhiS m c (t.val + 1) t.isLt from rfl, PhiS_succ]
  have hN := pt_lt t
  by_cases hz : t.val = 0
  · rw [PhiS_castSucc m c t, PhiS_zero m c _ _ hz, PhiA_eq]
    iintro ⟨⟨⟨%xs, HS⟩, Hg⟩, Ho, ⟨%d0, H0⟩, ⟨%d1, H1⟩, ⟨%d2, H2⟩, ⟨%d3, H3⟩, ⟨%d4, H4⟩, ⟨%d5, -, H5⟩, ⟨%d6, -, H6⟩, ⟨%d7, -, H7⟩, ⟨%Y8, %hY8, H8⟩, ⟨%d9, -, H9⟩, ⟨%d10, -, H10⟩⟩
    iapply (body_step m c t Y8 xs (fun h => absurd hz h) (fun h => absurd (show t.val % 20 = 0 by omega) h) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    isplitl [H9]; · iexists _; iexact H9
    isplitl [H10]; · iexists _; iexact H10
    isplitl [HS]; · iexact HS
    iintro ⟨H0, H1, H2, H3, H4, H5, H6, H7, H8, H9, H10, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [PhiS_castSucc m c t, PhiS_pos m c _ _ hz]
    iintro ⟨⟨⟨%xs, %hxs, HS⟩, Hg⟩, Ho, ⟨%d0, H0⟩, ⟨%d1, H1⟩, ⟨%d2, H2⟩, ⟨%d3, H3⟩, ⟨%d4, H4⟩, ⟨%d5, -, H5⟩, ⟨%d6, -, H6⟩, ⟨%d7, -, H7⟩, ⟨%Y8, %hY8, H8⟩, ⟨%d9, -, H9⟩, ⟨%d10, -, H10⟩⟩
    iapply (body_step m c t Y8 xs (fun h => finds8 m (dats m 0 c) t Y8 h hY8) (fun h => prev m c t xs hz h hxs) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    isplitl [H9]; · iexists _; iexact H9
    isplitl [H10]; · iexists _; iexact H10
    isplitl [HS]; · iexact HS
    iintro ⟨H0, H1, H2, H3, H4, H5, H6, H7, H8, H9, H10, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots. -/
theorem defs₀_row (t : Fin cfg0.N) :
    defs₀ (F := Ideal) .tc cfg0.body (cfg0.bodyArgs t (cfg0.slots t)) = bodyAt0 t := by
  unfold defs₀; rw [Defs.onTc_tc]

/-- The body obligation at every point. -/
theorem body_obligation (c : Dev nD) : BodyObligationRel (dats m 0 c) (defs₀ (F := Ideal)) Variants.none () Set.univ outs (Rl m c) := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- The invariant after any point gives back what the launch handed over. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨%X, -, HS⟩, Hg⟩
  isplitl [HS]
  · iexists _; iexact HS
  iexact Hg

/-- The invariant after the last point gives back what the launch handed over. -/
theorem hout (c : Dev nD) : (dats m 0 c).Φ (Fin.last cfg0.N) ⊢ Pipeline.ΦA spec0 c :=
  Phi_out m c _ (by rw [Fin.val_last]; have : cfg0.N = 60 := N_0; omega)

/-- The frame run of relational data taken at data read relationally, the data a variable. -/
theorem run_rel (dt : (c : Dev nD) → Dat τ (Elt Ideal) Unit ℕ (UR sig nD τ) ℕ (cfgs (0 : Fin 1)) c)
    (R : (c : Dev nD) → (w : Fin cfg0.W) → Fin cfg0.N → ((cfg0.win w).block.Idx → Elt Ideal (cfg0.win w).elt) → Prop)
    (hbody : ∀ c, BodyObligationRel (dt c) (defs₀ (F := Ideal)) Variants.none () Set.univ outs (R c))
    (hshare : ∀ c w, (dt c).share w = fullShare) (howed : ∀ c t, (dt c).owed t = 0)
    (hA : ∀ c w, (dt c).A w = V m c (Pipeline.arrRef spec0 w))
    (hin : ∀ c, Pipeline.ΦA spec0 c ⊢ (dt c).Φ 0) (hout : ∀ c, (dt c).Φ (Fin.last cfg0.N) ⊢ Pipeline.ΦA spec0 c) :
    θ_run defs (onTc (τ := τ) (main (F := Ideal))) (s₀ m ρ) (fun r =>
      (Pipeline.RDat.FramePost (cfgs 0) (fun c => (dt c).toRRel outs (R c)) (V m)) r ∧ r.2.sem = fun _ => 0) :=
  Pipeline.RDat.θ_run_frame_track (Q' := _) cfgs (0 : Fin 1) launch0 defs₀ Variants.none (fun c => (dt c).toRRel outs (R c)) m ρ main
    (hbody := fun c => (hbody c).toRRel) (hshare := hshare) (howed := howed) (V := V m) (hmain := hmain m Variants.none) (hA := hA)
    (hin := hin) (hout := hout)

/-- The run: the relational post, and every counter at zero. -/
theorem run_main : θ_run defs (onTc (τ := τ) (main (F := Ideal))) (s₀ m ρ) (fun r =>
      (Pipeline.RDat.FramePost (cfgs 0) (fun c => (dats m 0 c).toRRel outs (Rl m c)) (V m)) r ∧ r.2.sem = fun _ => 0) :=
  run_rel m ρ (dats m 0) (Rl m) (body_obligation m) (fun c => (dats m 0 c).share_full fun _ => rfl) (fun _ _ => rfl) (A_eq m) (hin m) (hout m)

end Cert.KernelIdeal.Val
end
-- ==== Proof.Arrays.lean ====
/- What the run of the kernel at the extended reals leaves in memory: every output array element by element. -/
module

public import proofs.«01_k».proof.Proof.Run

@[expose] public section

set_option maxRecDepth 16384
set_option maxHeartbeats 2000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI Idealize.SL.Sem
open Idealize.ShloMosaic.Pipeline (Dat)

variable (m : (ℓ : Loc nD τ sig) → Buf (Elt Ideal) ℓ) (ρ : Dev nD → PrngReg)

/-- The new weights' array. -/
def G5 (c : Dev nD) : FVec Ideal S3x2560x6144 .f32 := fun i => WN m c (i 0) (i 1) (i 2)
/-- The new first moment's array. -/
def G6 (c : Dev nD) : FVec Ideal S3x2560x6144 .f32 := fun i => mnS (AG m c i) (AM m c i)
/-- The new second moment's array. -/
def G7 (c : Dev nD) : FVec Ideal S3x2560x6144 .f32 := fun i => vnS (AG m c i) (AV m c i)
/-- The codes' array. -/
def G9 (c : Dev nD) : FVec Ideal S3x2560x6144 .fp8e4m3 := fun i => cdS (ST m c (ix2 3 (i 0))) (WN m c (i 0) (i 1) (i 2))
/-- The transposed codes' array. -/
def G10 (c : Dev nD) : FVec Ideal S3x6144x2560 .fp8e4m3 := fun i => cdS (ST m c (ix2 3 (i 0))) (WN m c (i 0) (i 2) (i 1))

/-- An array that is filled with blocks in the relation of window 5 holds the new weights. -/
theorem arr5 (c : Dev nD) (dt : Dat τ (Elt Ideal) Unit ℕ (UR sig nD τ) ℕ cfg0 c)
    (h : ∀ u, (cfg0.win 5).flush u = true → Rl m c 5 u (dt.after 5 u)) : dt.arrAt 5 cfg0.N = G5 m c := by
  refine dt.arrAt_eq_of_covers 5 (G5 m c) (by decide +kernel) fun t hf y => ?_
  have hL := h t hf
  blk_simp
  have e : ((cfg0.win 5).blk t).view.emb y = ix3 (lay t) (row t (y 1)) (y 2) := by
    blk_ext [idx t, lay, row]
  have e' : y = ix3 0 (y 1) (y 2) := by blk_ext [idx t]
  exact (congrArg (dt.after 5 t) e').trans ((hL (y 1) (y 2)).trans (congrArg (G5 m c) e).symm)

/-- An array that is filled with blocks in the relation of window 6 holds the new first moment. -/
theorem arr6 (c : Dev nD) (dt : Dat τ (Elt Ideal) Unit ℕ (UR sig nD τ) ℕ cfg0 c)
    (h : ∀ u, (cfg0.win 6).flush u = true → Rl m c 6 u (dt.after 6 u)) : dt.arrAt 6 cfg0.N = G6 m c := by
  refine dt.arrAt_eq_of_covers 6 (G6 m c) (by decide +kernel) fun t hf y => ?_
  have hL := h t hf
  blk_simp
  have e : ((cfg0.win 6).blk t).view.emb y = ix3 (lay t) (row t (y 1)) (y 2) := by
    blk_ext [idx t, lay, row]
  have e' : y = ix3 0 (y 1) (y 2) := by blk_ext [idx t]
  exact (congrArg (dt.after 6 t) e').trans ((hL (y 1) (y 2)).trans (congrArg (G6 m c) e).symm)

/-- An array that is filled with blocks in the relation of window 7 holds the new second moment. -/
theorem arr7 (c : Dev nD) (dt : Dat τ (Elt Ideal) Unit ℕ (UR sig nD τ) ℕ cfg0 c)
    (h : ∀ u, (cfg0.win 7).flush u = true → Rl m c 7 u (dt.after 7 u)) : dt.arrAt 7 cfg0.N = G7 m c := by
  refine dt.arrAt_eq_of_covers 7 (G7 m c) (by decide +kernel) fun t hf y => ?_
  have hL := h t hf
  blk_simp
  have e : ((cfg0.win 7).blk t).view.emb y = ix3 (lay t) (row t (y 1)) (y 2) := by
    blk_ext [idx t, lay, row]
  have e' : y = ix3 0 (y 1) (y 2) := by blk_ext [idx t]
  exact (congrArg (dt.after 7 t) e').trans ((hL (y 1) (y 2)).trans (congrArg (G7 m c) e).symm)

/-- An array that is filled with blocks in the relation of window 9 holds the codes. -/
theorem arr9 (c : Dev nD) (dt : Dat τ (Elt Ideal) Unit ℕ (UR sig nD τ) ℕ cfg0 c)
    (h : ∀ u, (cfg0.win 9).flush u = true → Rl m c 9 u (dt.after 9 u)) : dt.arrAt 9 cfg0.N = G9 m c := by
  refine dt.arrAt_eq_of_covers 9 (G9 m c) (by decide +kernel) fun t hf y => ?_
  have hL := h t hf
  blk_simp
  have e : ((cfg0.win 9).blk t).view.emb y = ix3 (lay t) (row t (y 1)) (y 2) := by
    blk_ext [idx t, lay, row]
  have e' : y = ix3 0 (y 1) (y 2) := by blk_ext [idx t]
  exact (congrArg (dt.after 9 t) e').trans ((hL (y 1) (y 2)).trans (congrArg (G9 m c) e).symm)

/-- An array that is filled with blocks in the relation of window 10 holds the transposed codes. -/
theorem arr10 (c : Dev nD) (dt : Dat τ (Elt Ideal) Unit ℕ (UR sig nD τ) ℕ cfg0 c)
    (h : ∀ u, (cfg0.win 10).flush u = true → Rl m c 10 u (dt.after 10 u)) : dt.arrAt 10 cfg0.N = G10 m c := by
  refine dt.arrAt_eq_of_covers 10 (G10 m c) (by decide +kernel) fun t hf y => ?_
  have hL := h t hf
  blk_simp
  have e : ((cfg0.win 10).blk t).view.emb y = ix3 (lay t) (y 1) (row t (y 2)) := by
    blk_ext [idx t, lay, row]
  have e' : y = ix3 0 (y 1) (y 2) := by blk_ext [idx t]
  exact (congrArg (dt.after 10 t) e').trans ((hL (y 1) (y 2)).trans (congrArg (G10 m c) e).symm)

/-- The last point of the grid. -/
def tLast : Fin cfg0.N := ⟨59, Nat.lt_of_lt_of_eq (by decide : 59 < 60) (show 60 = cfg0.N from N_0.symm)⟩

/-- It writes window 8 back, whole. -/
theorem whole8 : (cfg0.win 8).WholeAt tLast := (by decide +kernel : (cfg0.win 8).WholeAt (⟨59, Nat.lt_of_lt_of_eq (by decide : 59 < 60) (show 60 = cfg0.N from N_0.symm)⟩ : Fin grid0.N))

/-- The maxima's array, written back once, after the last point: the maximum of every layer. -/
theorem arr8 (c : Dev nD) (dt : Dat τ (Elt Ideal) Unit ℕ (UR sig nD τ) ℕ cfg0 c)
    (h : ∀ u, (cfg0.win 8).flush u = true → Rl m c 8 u (dt.after 8 u)) : MaxQ m c 59 (dt.arrAt 8 cfg0.N) := by
  have hL : MaxQ m c 59 (dt.after 8 tLast) := h tLast whole8.1
  have e : dt.arrAt 8 cfg0.N = dt.after 8 tLast := by
    funext j
    exact dt.arrAt_emb_eq_after_last 8 tLast whole8 j
  rw [e]
  exact hL

/-- What the run leaves on a core: the six output arrays, the scale, and the arguments as launched. -/
def Post (c : Dev nD) (r : PUnit × MemSt nD τ sig (Elt Ideal)) : Prop :=
  r.2.mem ((c.tc : Thread nD τ).loc main_v62_0) = G5 m c
  ∧ r.2.mem ((c.tc : Thread nD τ).loc main_v62_1) = G6 m c
  ∧ r.2.mem ((c.tc : Thread nD τ).loc main_v62_2) = G7 m c
  ∧ MaxQ m c 59 (r.2.mem ((c.tc : Thread nD τ).loc main_v62_3))
  ∧ r.2.mem ((c.tc : Thread nD τ).loc main_v62_4) = G9 m c
  ∧ r.2.mem ((c.tc : Thread nD τ).loc main_v62_5) = G10 m c
  ∧ r.2.mem ((c.tc : Thread nD τ).loc main_v42) = V m c main_v42

/-- The relational post, read at the outputs. -/
theorem post_of (dt : (c : Dev nD) → Dat τ (Elt Ideal) Unit ℕ (UR sig nD τ) ℕ (cfgs (0 : Fin 1)) c)
    (r : PUnit × MemSt nD τ sig (Elt Ideal))
    (h : Pipeline.RDat.FramePost (cfgs 0) (fun c => (dt c).toRRel outs (Rl m c)) (V m) r) (c : Dev nD) : Post m c r := by
  obtain ⟨after, hL, hA⟩ := h.exists_exact c
  have hR : ∀ w : Fin cfg0.W, outs w = true → ∀ u, (cfg0.win w).flush u = true → Rl m c w u (after w u) :=
    fun w hw u hf => (dt c).toRRel_leaves hw (hL w u hf)
  refine ⟨(hA 5).trans (arr5 m c _ (hR 5 rfl)), (hA 6).trans (arr6 m c _ (hR 6 rfl)), (hA 7).trans (arr7 m c _ (hR 7 rfl)), ?_,
    (hA 9).trans (arr9 m c _ (hR 9 rfl)), (hA 10).trans (arr10 m c _ (hR 10 rfl)),
    (h c).2 main_v42 (Pipeline.mem_restRefs_of main_v42 (by decide) (by decide))⟩
  have e8 : r.2.mem ((c.tc : Thread nD τ).loc main_v62_3) = (((dt c).toRRel outs (Rl m c)).withAfter after).arrAt 8 cfg0.N := hA 8
  rw [e8]
  exact arr8 m c _ (hR 8 rfl)

/-- The run with the outputs named. -/
theorem run_post : θ_run defs (onTc (τ := τ) (main (F := Ideal))) (s₀ m ρ) (fun r => ∀ c : Dev nD, Post m c r) :=
  (θ_run defs _ _).mono (fun r h c => post_of m (dats m 0) r h.1 c) (run_main m ρ)

/-- The arguments after any run of relational data taken at the arrays the region finds: as launched. -/
theorem unchanged_of (rdat : (c : Dev nD) → Pipeline.RDat τ (Elt Ideal) Unit ℕ (UR sig nD τ) ℕ (cfgs 0) c)
    (hA : ∀ c w, (rdat c).A w = V m c (Pipeline.arrRef spec0 w))
    (h : θ_run defs (onTc (τ := τ) (main (F := Ideal))) (s₀ m ρ) (Pipeline.RDat.FramePost (cfgs 0) rdat (V m))) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 1 rfl).trans ((hA c 1).trans (V_main_arg0 m c)),
      (Pipeline.RDat.FramePost.arr_in h c 2 rfl).trans ((hA c 2).trans (V_main_arg1 m c)),
      (Pipeline.RDat.FramePost.arr_in h c 3 rfl).trans ((hA c 3).trans (V_main_arg2 m c)),
      (Pipeline.RDat.FramePost.arr_in h c 4 rfl).trans ((hA c 4).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-- The run leaves the arguments as launched. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  unchanged_of m ρ (fun c => (dats m 0 c).toRRel outs (Rl m c)) (A_eq m) ((θ_run defs _ _).mono (fun _ h => h.1) (run_main m ρ))

/-- The frame: the arguments end as launched and every counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main m ρ))

end Cert.KernelIdeal.Val
end
-- ==== Proof.Scale.lean ====
/- The scale of the codes as a power of two: the exponent field of a word against a real power, and the count of the powers of
   two below a number against the floor of its logarithm. -/
module

public import proofs.«01_k».proof.Proof.Block
public import Idealize.ShloMosaic.Lib.Claim

@[expose] public section

set_option maxRecDepth 16384
set_option maxHeartbeats 2000000

noncomputable section

namespace Cert.KernelIdeal.Val

open Idealize.ShloMosaic

/-- The sign bit, the exponent field and the significand of the word with the exponent field `k` and nothing else. -/
theorem word_fields : ∀ k : Fin 256, (BitVec.ofNat 32 k.val <<< 23).extractLsb' (8 + 23) 1 = 0#1 ∧
    ((BitVec.ofNat 32 k.val <<< 23).extractLsb' 23 8).toNat = k.val ∧ ((BitVec.ofNat 32 k.val <<< 23).extractLsb' 0 23).toNat = 0 := by
  decide +kernel

/-- A positive word with a proper exponent field and no significand denotes a power of two. -/
theorem ieee_pow (w : BitVec 32) (k : ℕ) (h1 : 1 ≤ k) (h2 : k ≤ 254) (hn : w.extractLsb' (8 + 23) 1 = 0#1) (he : (w.extractLsb' 23 8).toNat = k)
    (hf : (w.extractLsb' 0 23).toNat = 0) : Ideal.ieee 8 23 w = (((2 : ℝ) ^ ((k : ℤ) - 127) : ℝ) : EReal) := by
  have hz : (2 : ℝ) ^ ((k : ℤ) - 127) = 2 ^ 23 * (2 : ℝ) ^ ((k : ℤ) - (2 ^ (8 - 1) - 1) - ((23 : ℕ) : ℤ)) := by
    rw [show ((2 : ℝ) ^ 23) = (2 : ℝ) ^ (23 : ℤ) from rfl, ← zpow_add₀ (by norm_num : (2 : ℝ) ≠ 0)]
    congr 1
    norm_num
  unfold Ideal.ieee
  simp only [hn, he, hf]
  rw [if_neg (by omega), if_neg (by omega), hz]
  congr 2
  norm_num

/-- The word with the exponent field `k` and nothing else denotes two to the power `k - 127`. -/
theorem word_pow (k : ℕ) (h1 : 1 ≤ k) (h2 : k ≤ 254) : Ideal.ofBits .f32 (BitVec.ofNat 32 k <<< 23) = (((2 : ℝ) ^ ((k : ℤ) - 127) : ℝ) : EReal) :=
  have h := word_fields ⟨k, by omega⟩
  ieee_pow _ k h1 h2 h.1 h.2.1 h.2.2

/-- A sum of ones and zeros over words, as a count. -/
theorem fold_count {n : ℕ} (p : Fin n → Prop) [DecidablePred p] (f : Fin n → BitVec 32) (hf : ∀ k, f k = if p k then 1#32 else 0#32) :
    Finset.univ.fold IntOp.addi 0#32 f = BitVec.ofNat 32 ((Finset.univ.filter p).card) := by
  have key : ∀ s : Finset (Fin n), s.fold IntOp.addi 0#32 f = BitVec.ofNat 32 ((s.filter p).card) := by
    intro s
    induction s using Finset.induction_on with
    | empty => rfl
    | insert a s ha ih =>
      rw [Finset.fold_insert ha, ih, hf, Finset.filter_insert]
      show _ + _ = _
      split
      · rw [Finset.card_insert_of_notMem (by simp [ha]), Nat.add_comm, BitVec.ofNat_add]
      · exact BitVec.zero_add _
  exact key _

/-- The number of `k` below `n` that are less than `c`. -/
theorem card_lt (n c : ℕ) (hc : c ≤ n) : (Finset.univ.filter fun k : Fin n => k.val < c).card = c := by
  rw [Fin.card_filter_val_lt, Nat.min_eq_right hc]

/-- For a positive real `x`: `2^k ≤ x` exactly when `k` is at most the floor of the logarithm of `x` to the base two. -/
theorem pow_le_iff (x : ℝ) (hx : 0 < x) (k : ℤ) : (2 : ℝ) ^ k ≤ x ↔ k ≤ ⌊Real.log x / Real.log 2⌋ := by
  rw [Int.le_floor, le_div_iff₀ (Real.log_pos (by norm_num)), ← Real.log_zpow, Real.log_le_log_iff (by positivity) hx]

/-! ## The exponent -/

/-- The bounds of the exponents and the number two, as the programs write them. -/
theorem ofBits_low : Ideal.ofBits .f32 8388608#32 = (((2 : ℝ) ^ (-126 : ℤ) : ℝ) : EReal) :=
  word_pow 1 (by omega) (by omega)

/-- The least number above the range of the exponents. -/
theorem ofBits_high : Ideal.ofBits .f32 2071986176#32 = (((2 : ℝ) ^ (120 : ℤ) : ℝ) : EReal) :=
  word_pow 247 (by omega) (by omega)

/-- The base of the powers. -/
theorem ofBits_two : Ideal.ofBits .f32 1073741824#32 = ((2 : ℝ) : EReal) :=
  (word_pow 128 (by omega) (by omega)).trans (by norm_num)

/-- The magnitude whose exponent is taken. -/
def absX (a : EReal) : EReal := abS (a * Ideal.ofBits .f32 991054117#32)

/-- A magnitude is not negative. -/
theorem absX_nonneg (a : EReal) : 0 ≤ absX a := by
  unfold absX abS
  rcases le_total 0 (a * Ideal.ofBits .f32 991054117#32) with h | h
  · exact le_max_of_le_left h
  · exact le_max_of_le_right (EReal.neg_nonneg.2 h)

/-- The number of powers of two from the 126th below one to the 119th above it that are at most `x`, as a word. -/
def kcnt (x : EReal) : BitVec 32 :=
  Finset.fold IntOp.addi (0#32)
    (fun k : Fin 246 => BitVec.setWidth 32 (BitVec.ofBool (decide
      (Ideal.ofBits FTy.f32 (IntOp.shli ArithUnit.host (IntOp.addi (IntOp.subi (BitVec.ofNat 32 k.val) 126#32) 127#32) 23#32) ≤ x))))
    Finset.univ

/-- The exponent as the kernel computes it. -/
def kexp (a : EReal) : BitVec 32 :=
  if a = 0 then 0#32
  else
    Scalar.select
      (IntOp.andi (IntOp.cmpi CmpIPredicate.sgt (kcnt (absX a)) 0#32)
        (BitVec.ofBool (decide (absX a < Ideal.ofBits FTy.f32 2071986176#32))))
      (IntOp.subi (kcnt (absX a)) 126#32) 0#32

/-- The float with the exponent field of the word `e`. -/
def kpow (e : BitVec 32) : EReal := Ideal.ofBits FTy.f32 (IntOp.shli ArithUnit.host (IntOp.addi e 127#32) 23#32)

/-- The exponent as the reference computes it. -/
def rexp (a : EReal) : EReal :=
  if a = 0 then 0
  else
    Scalar.select
      (IntOp.andi (BitVec.ofBool (decide (Ideal.ofBits FTy.f32 8388608#32 ≤ absX a)))
        (BitVec.ofBool (decide (absX a < Ideal.ofBits FTy.f32 2071986176#32))))
      (Ideal.liftRound Int.floor (Ideal.div (Ideal.log (absX a)) (Ideal.log (Ideal.ofBits FTy.f32 1073741824#32))) + 1) 0

/-- The power of two number `k` of the count. -/
theorem power_word (k : Fin 246) :
    Ideal.ofBits FTy.f32 (IntOp.shli ArithUnit.host (IntOp.addi (IntOp.subi (BitVec.ofNat 32 k.val) 126#32) 127#32) 23#32)
      = (((2 : ℝ) ^ ((k.val : ℤ) - 126) : ℝ) : EReal) := by
  have h : IntOp.shli ArithUnit.host (IntOp.addi (IntOp.subi (BitVec.ofNat 32 k.val) 126#32) 127#32) 23#32 = BitVec.ofNat 32 (k.val + 1) <<< 23 := by
    revert k
    decide +kernel
  rw [h, word_pow (k.val + 1) (by omega) (by omega), show ((k.val + 1 : ℕ) : ℤ) - 127 = (k.val : ℤ) - 126 by omega]

/-- The count, once it is known which powers are counted. -/
theorem kcnt_eq (x : EReal) (c : ℕ) (hc : c ≤ 246) (h : ∀ k : Fin 246, (((2 : ℝ) ^ ((k.val : ℤ) - 126) : ℝ) : EReal) ≤ x ↔ k.val < c) :
    kcnt x = BitVec.ofNat 32 c := by
  unfold kcnt
  rw [fold_count (fun k : Fin 246 => k.val < c), card_lt 246 c hc]
  intro k
  rw [power_word]
  by_cases hk : k.val < c
  · rw [decide_eq_true ((h k).2 hk), if_pos hk]; rfl
  · rw [decide_eq_false (fun h' => hk ((h k).1 h')), if_neg hk]; rfl

/-- THE EXPONENT: an integer between -125 and 120, which the kernel has as a word and the reference as a number. -/
theorem exponent (a : EReal) : ∃ E : ℤ, -125 ≤ E ∧ E ≤ 120 ∧ kexp a = BitVec.ofInt 32 E ∧ rexp a = ((E : ℝ) : EReal) := by
  by_cases ha : a = 0
  · exact ⟨0, by omega, by omega, by rw [kexp, if_pos ha]; rfl, by rw [rexp, if_pos ha]; norm_num⟩
  unfold kexp rexp
  rw [if_neg ha, if_neg ha, ofBits_low, ofBits_high, ofBits_two]
  have hx0 := absX_nonneg a
  generalize absX a = x at hx0
  by_cases hhi : x < (((2 : ℝ) ^ (120 : ℤ) : ℝ) : EReal)
  swap
  · refine ⟨0, by omega, by omega, ?_, ?_⟩
    · rw [decide_eq_false hhi]
      exact if_neg (by show ¬ (_ &&& 0#1 = 1#1); rw [BitVec.and_zero]; decide)
    · rw [decide_eq_false hhi]
      exact (if_neg (by show ¬ (_ &&& 0#1 = 1#1); rw [BitVec.and_zero]; decide)).trans (by norm_num)
  by_cases hlo : (((2 : ℝ) ^ (-126 : ℤ) : ℝ) : EReal) ≤ x
  swap
  · have hc : kcnt x = 0#32 := kcnt_eq x 0 (by omega) fun k => ⟨fun h => (hlo (le_trans (EReal.coe_le_coe_iff.2 (zpow_le_zpow_right₀ (by norm_num) (by omega))) h)).elim, fun h => by omega⟩
    refine ⟨0, by omega, by omega, ?_, ?_⟩
    · rw [hc, decide_eq_true hhi]; decide
    · rw [decide_eq_false hlo, decide_eq_true hhi]
      exact (if_neg (by decide)).trans (by norm_num)
  · lift x to ℝ using ⟨(lt_of_lt_of_le hhi le_top).ne, ((EReal.bot_lt_zero).trans_le hx0).ne'⟩
    have hlo' := EReal.coe_le_coe_iff.1 hlo
    have hhi' := EReal.coe_lt_coe_iff.1 hhi
    have hpos : 0 < x := lt_of_lt_of_le (by positivity) hlo'
    have h1 := (pow_le_iff x hpos (-126)).1 hlo'
    have h2 : ⌊Real.log x / Real.log 2⌋ < 120 := by
      by_contra h
      exact absurd ((pow_le_iff x hpos 120).2 (not_lt.1 h)) (not_le.2 hhi')
    have hfl : Ideal.liftRound Int.floor (Ideal.div (Ideal.log (x : EReal)) (Ideal.log ((2 : ℝ) : EReal))) = ((⌊Real.log x / Real.log 2⌋ : ℝ) : EReal) := by
      have e1 : Ideal.log (x : EReal) = ((Real.log x : ℝ) : EReal) := if_neg (not_le.2 hpos)
      have e2 : Ideal.log ((2 : ℝ) : EReal) = ((Real.log 2 : ℝ) : EReal) := if_neg (by norm_num)
      have hne : ((Real.log 2 : ℝ) : EReal) ≠ 0 := by
        rw [Ne, EReal.coe_eq_zero]
        exact (Real.log_pos (by norm_num)).ne'
      rw [e1, e2]
      unfold Ideal.div
      rw [if_neg hne, ← EReal.coe_inv, ← EReal.coe_mul, ← div_eq_mul_inv]
      rfl
    have hn : ∀ k : ℤ, (2 : ℝ) ^ k ≤ x ↔ k ≤ ⌊Real.log x / Real.log 2⌋ := pow_le_iff x hpos
    generalize ⌊Real.log x / Real.log 2⌋ = n at h1 h2 hfl hn
    have hc : kcnt (x : EReal) = BitVec.ofNat 32 (n + 127).toNat := kcnt_eq _ _ (by omega) fun k => by
      rw [EReal.coe_le_coe_iff, hn]
      omega
    refine ⟨n + 1, by omega, by omega, ?_, ?_⟩
    · rw [hc, decide_eq_true hhi]
      obtain ⟨q, rfl⟩ : ∃ q : ℕ, n = (q : ℤ) - 126 := ⟨(n + 126).toNat, by omega⟩
      have hq : q < 246 := by omega
      have : ∀ q : Fin 246, Scalar.select (IntOp.andi (IntOp.cmpi CmpIPredicate.sgt (BitVec.ofNat 32 (q.val + 1)) 0#32) (BitVec.ofBool true))
          (IntOp.subi (BitVec.ofNat 32 (q.val + 1)) 126#32) 0#32 = BitVec.ofInt 32 ((q.val : ℤ) - 126 + 1) := by decide +kernel
      rw [show ((q : ℤ) - 126 + 127).toNat = q + 1 by omega]
      exact this ⟨q, hq⟩
    · rw [decide_eq_true hlo, decide_eq_true hhi, hfl]
      refine (if_pos (by decide)).trans ?_
      push_cast
      rfl

/-- The kernel's float with the exponent field of an exponent is the power of two. -/
theorem kpow_eq (E : ℤ) (h1 : -126 ≤ E) (h2 : E ≤ 127) : kpow (BitVec.ofInt 32 E) = (((2 : ℝ) ^ E : ℝ) : EReal) := by
  obtain ⟨q, rfl⟩ : ∃ q : ℕ, E = (q : ℤ) - 126 := ⟨(E + 126).toNat, by omega⟩
  have hq : q < 254 := by omega
  have : ∀ q : Fin 254, IntOp.shli ArithUnit.host (IntOp.addi (BitVec.ofInt 32 ((q.val : ℤ) - 126)) 127#32) 23#32 = BitVec.ofNat 32 (q.val + 1) <<< 23 := by
    decide +kernel
  unfold kpow
  rw [this ⟨q, hq⟩]
  rw [word_pow (q + 1) (by omega) (by omega), show ((q + 1 : ℕ) : ℤ) - 127 = (q : ℤ) - 126 by omega]

/-- The power of two at the reals is the power of two. -/
theorem pow_two_eq (E : ℤ) : Ideal.pow ((2 : ℝ) : EReal) ((E : ℝ) : EReal) = (((2 : ℝ) ^ E : ℝ) : EReal) := by
  show ((Real.rpow 2 (E : ℝ) : ℝ) : EReal) = _
  congr 1
  exact Real.rpow_intCast 2 E

/-- THE SCALE: the kernel's and the reference's. -/
theorem scale_eq (a : EReal) : kpow (kexp a) = Ideal.pow (Ideal.ofBits .f32 1073741824#32) (rexp a) := by
  obtain ⟨E, h1, h2, hk, hr⟩ := exponent a
  rw [hk, hr, ofBits_two, kpow_eq E (by omega) (by omega), pow_two_eq]

/-- THE INVERSE SCALE: the kernel's and the reference's. -/
theorem inv_eq (a : EReal) : kpow (-(kexp a)) = Ideal.pow (Ideal.ofBits .f32 1073741824#32) (-(rexp a)) := by
  obtain ⟨E, h1, h2, hk, hr⟩ := exponent a
  have hneg : -(BitVec.ofInt 32 E) = BitVec.ofInt 32 (-E) := by rw [BitVec.ofInt_neg]
  have hneg' : -((E : ℝ) : EReal) = (((-E : ℤ) : ℝ) : EReal) := by push_cast; rfl
  rw [hk, hr, ofBits_two, hneg, hneg', kpow_eq (-E) (by omega) (by omega), pow_two_eq]

/-- The bias correction of a layer: one minus the constant `β` to the power of the step. -/
def bcS (β : BitVec 32) (t : BitVec 32) : EReal := 1 - Ideal.pow (Ideal.ofBits FTy.f32 β) (FloatOps.sitofp (F := Ideal) FTy.f32 t)

end Cert.KernelIdeal.Val

end
-- ==== Proof.Table.lean ====
/- The scalars of each layer as the kernel's host computes them: the exponent of the scale, the scale and the table of factors. -/
module

public import proofs.«01_k».proof.Proof.Point
public import proofs.«01_k».proof.Proof.Scale
public import Idealize.ShloMosaic.Lib.Claim

@[expose] public section

set_option maxRecDepth 16384
set_option maxHeartbeats 2000000

noncomputable section

namespace Cert.KernelIdeal.Val

open Cert.KernelIdeal Cert.KernelIdeal.Gen
open Idealize.ShloMosaic Idealize.ShloMosaic.TcCoe Idealize.ShloMosaic.Tactic

/-- The magnitude whose exponent is taken, for every layer. -/
def KX (a : FVec Ideal S3 .f32) : FVec Ideal S3 .f32 :=
  Host.absf (mulf a (broadcastInDim S3 ![] bcast_S_S3 (constant S_ FTy.f32 991054117#32)))

/-- The number of powers of two not above it. -/
def KN (a : FVec Ideal S3 .f32) : IVec S3 32 :=
  Host.reduce IntOp.addi
    (extui 32
      (cmpf CmpFPredicate.ole
        (broadcastInDim S3x246 ![0, 1] bcast_S1x246_S3x246_0_1
          (broadcastInDim S1x246 ![1] bcast_S246_S1x246_1
            (bitcastToFloat (F := Ideal) FTy.f32
              (Host.shli
                (addi
                  (subi (iotaInDim S246 32 0)
                    (broadcastInDim S246 ![] bcast_S_S246 (constantI S_ 32 126#32)))
                  (broadcastInDim S246 ![] bcast_S_S246 (constantI S_ 32 127#32)))
                (broadcastInDim S246 ![] bcast_S_S246 (constantI S_ 32 23#32))))))
        (broadcastInDim S3x246 ![0, 1] bcast_S3x1_S3x246_0_1
          (broadcastInDim S3x1 ![0] bcast_S3_S3x1_0 (KX a))))
      natLt_1_32)
    (constantI S_ 32 0#32) reducesTo_S3x246_S3_d1 h_S_

/-- The exponent of the scale, for every layer. -/
def KE (a : FVec Ideal S3 .f32) : IVec S3 32 :=
  select (cmpf CmpFPredicate.oeq a (broadcastInDim S3 ![] bcast_S_S3 (constant S_ FTy.f32 0#32)))
    (broadcastInDim S3 ![] bcast_S_S3 (constantI S_ 32 0#32))
    (select
      (andi (cmpi CmpIPredicate.sgt (KN a) (broadcastInDim S3 ![] bcast_S_S3 (constantI S_ 32 0#32)))
        (cmpf CmpFPredicate.olt (KX a) (broadcastInDim S3 ![] bcast_S_S3 (constant S_ FTy.f32 2071986176#32))))
      (subi (KN a) (broadcastInDim S3 ![] bcast_S_S3 (constantI S_ 32 126#32)))
      (broadcastInDim S3 ![] bcast_S_S3 (constantI S_ 32 0#32)))

/-- A float with the exponent field of `e`, for every layer. -/
def KP (e : IVec S3 32) : FVec Ideal S3 .f32 :=
  bitcastToFloat (F := Ideal) FTy.f32
    (Host.shli (addi e (broadcastInDim S3 ![] bcast_S_S3 (constantI S_ 32 127#32))) (broadcastInDim S3 ![] bcast_S_S3 (constantI S_ 32 23#32)))

/-- The magnitude of one layer. -/
theorem KX_at (a : FVec Ideal S3 .f32) (b : Fin 3) : KX a (ix1 b) = absX (a (ix1 b)) := by
  unfold KX
  pointwise
  rfl

/-- The count of one layer. -/
theorem KN_at (a : FVec Ideal S3 .f32) (b : Fin 3) : KN a (ix1 b) = kcnt (absX (a (ix1 b))) := by
  unfold KN
  pointwise
  simp only [KX_at]
  rfl

/-- The exponent of one layer. -/
theorem KE_at (a : FVec Ideal S3 .f32) (b : Fin 3) : KE a (ix1 b) = kexp (a (ix1 b)) := by
  unfold KE
  pointwise
  simp only [KX_at, KN_at]
  rfl

/-- The power of two of one layer. -/
theorem KP_at (e : IVec S3 32) (b : Fin 3) : KP e (ix1 b) = kpow (e (ix1 b)) := by
  unfold KP
  pointwise
  rfl

variable (m : (ℓ : Loc nD τ sig) → Buf (Elt Ideal) ℓ)

/-- The learning rates, the step numbers and the previous maxima. -/
def ALR (c : Dev nD) : FVec Ideal S3 .f32 := m (c, Proc.tc.devRef main_arg4)
def AST (c : Dev nD) : IVec S3 32 := m (c, Proc.tc.devRef main_arg5)
def APV (c : Dev nD) : FVec Ideal S3 .f32 := m (c, Proc.tc.devRef main_arg6)

/-- The scale's array. -/
theorem V_scale (c : Dev nD) : V m c main_v42 = KP (KE (APV m c)) := by
  unfold V
  simp only [hostOps0, hostOps0_1, hostOps0_2, hostOps0_3, hostOps0_4, List.flatten_cons, List.flatten_nil, List.append_nil, List.cons_append, List.nil_append]
  after_results_simp
  try after_results_loop
  rfl

/-- The table of factors: the weight decay, the step size, the inverse of the second correction and the inverse of the scale. -/
theorem V_table (c : Dev nD) (r : Fin 4) (b : Fin 3) : V m c main_v61 (ix2 r b) =
    (if h : r.val < 1 then 1 - (ALR m c (ix1 b) : EReal) * Ideal.ofBits FTy.f32 1036831949#32
    else if h : r.val - 1 < 1 then
        Ideal.div ((ALR m c (ix1 b) : EReal))
          (bcS 1063675494#32 (AST m c (ix1 b)))
    else if h : r.val - 1 - 1 < 1 then
          Ideal.div 1 (Ideal.sqrt
              (bcS 1064514355#32 (AST m c (ix1 b))))
    else kpow (-(KE (APV m c) (ix1 b)))) := by
  unfold V
  simp only [hostOps0, hostOps0_1, hostOps0_2, hostOps0_3, hostOps0_4, List.flatten_cons, List.flatten_nil, List.append_nil, List.cons_append, List.nil_append]
  after_results_simp
  simp only [Matrix.cons_val]
  after_results_simp
  try after_results_loop
  pointwise
  rfl

/-- The weight decay's factor of a layer. -/
theorem ST_0 (c : Dev nD) (b : Fin 3) : ST m c (ix2 0 b) = 1 - (ALR m c (ix1 b) : EReal) * Ideal.ofBits FTy.f32 1036831949#32 :=
  V_table m c 0 b

/-- The step size of a layer. -/
theorem ST_1 (c : Dev nD) (b : Fin 3) : ST m c (ix2 1 b) = Ideal.div ((ALR m c (ix1 b) : EReal))
    (bcS 1063675494#32 (AST m c (ix1 b))) :=
  V_table m c 1 b

/-- The factor of the square root of a layer. -/
theorem ST_2 (c : Dev nD) (b : Fin 3) : ST m c (ix2 2 b) = Ideal.div 1 (Ideal.sqrt
    (bcS 1064514355#32 (AST m c (ix1 b)))) :=
  V_table m c 2 b

/-- The inverse scale of a layer. -/
theorem ST_3 (c : Dev nD) (b : Fin 3) : ST m c (ix2 3 b) = kpow (-(kexp (APV m c (ix1 b)))) :=
  (V_table m c 3 b).trans (congrArg (fun e => kpow (-e)) (KE_at _ b))

end Cert.KernelIdeal.Val

end
-- ==== Proof.RefArrays.lean ====
/- The arrays the reference at the extended reals leaves in memory, element by element. -/
module

public import proofs.«01_k».proof.Proof.Gen.ReferenceIdeal
public import proofs.«01_k».proof.Proof.Scale
public import proofs.«01_k».proof.Defs
public import Idealize.ShloMosaic.Lib.Claim

@[expose] public section

set_option maxRecDepth 16384
set_option maxHeartbeats 2000000

noncomputable section

namespace Cert.ReferenceIdeal.Val

open Cert.ReferenceIdeal Cert.ReferenceIdeal.Gen
open Cert.KernelIdeal.Val (mnS vnS abS cdS bcS absX rexp)
open Idealize.ShloMosaic Idealize.ShloMosaic.TcCoe Idealize.ShloMosaic.Tactic

/-! ## The exponent of the scale -/

/-- The magnitude whose exponent is taken, for every layer. -/
def RX (a : FVec Ideal S3 .f32) : FVec Ideal S3 .f32 :=
  Host.absf (mulf a (broadcastInDim S3 ![] bcast_S_S3 (constant S_ FTy.f32 991054117#32)))

/-- The exponent of the scale, for every layer. -/
def RE (a : FVec Ideal S3 .f32) : FVec Ideal S3 .f32 :=
  select (cmpf CmpFPredicate.oeq a (broadcastInDim S3 ![] bcast_S_S3 (constant S_ FTy.f32 0#32)))
    (broadcastInDim S3 ![] bcast_S_S3 (constant S_ FTy.f32 0#32))
    (select
      (andi (cmpf CmpFPredicate.oge (RX a) (broadcastInDim S3 ![] bcast_S_S3 (constant S_ FTy.f32 8388608#32)))
        (cmpf CmpFPredicate.olt (RX a) (broadcastInDim S3 ![] bcast_S_S3 (constant S_ FTy.f32 2071986176#32))))
      (addf
        (Host.floor (Host.divf (Host.log (RX a)) (broadcastInDim S3 ![] bcast_S_S3 (Host.log (constant S_ FTy.f32 1073741824#32)))))
        (broadcastInDim S3 ![] bcast_S_S3 (constant S_ FTy.f32 1065353216#32)))
      (broadcastInDim S3 ![] bcast_S_S3 (constant S_ FTy.f32 0#32)))

/-- Two to a power, for every layer. -/
def RP (e : FVec Ideal S3 .f32) : FVec Ideal S3 .f32 :=
  Host.powf (broadcastInDim S3 ![] bcast_S_S3 (constant S_ FTy.f32 1073741824#32)) e

/-- The magnitude of one layer. -/
theorem RX_at (a : FVec Ideal S3 .f32) (b : Fin 3) : RX a (ix1 b) = absX (a (ix1 b)) := by
  unfold RX
  pointwise
  rfl

/-- The exponent of one layer. -/
theorem RE_at (a : FVec Ideal S3 .f32) (b : Fin 3) : RE a (ix1 b) = rexp (a (ix1 b)) := by
  unfold RE
  pointwise
  simp only [RX_at]
  rfl

/-- The power of two of one layer. -/
theorem RP_at (e : FVec Ideal S3 .f32) (b : Fin 3) : RP e (ix1 b) = Ideal.pow (Ideal.ofBits .f32 1073741824#32) (e (ix1 b)) := by
  unfold RP
  pointwise

variable (m : (ℓ : Loc nD τ sig) → Buf (Elt Ideal) ℓ)

/-- The arguments. -/
def BW (c : Dev nD) : FVec Ideal S3x2560x6144 .f32 := m (c, Proc.tc.devRef main_arg0)
def BG (c : Dev nD) : FVec Ideal S3x2560x6144 .bf16 := m (c, Proc.tc.devRef main_arg1)
def BM (c : Dev nD) : FVec Ideal S3x2560x6144 .f32 := m (c, Proc.tc.devRef main_arg2)
def BV (c : Dev nD) : FVec Ideal S3x2560x6144 .f32 := m (c, Proc.tc.devRef main_arg3)
def BLR (c : Dev nD) : FVec Ideal S3 .f32 := m (c, Proc.tc.devRef main_arg4)
def BST (c : Dev nD) : IVec S3 32 := m (c, Proc.tc.devRef main_arg5)
def BPV (c : Dev nD) : FVec Ideal S3 .f32 := m (c, Proc.tc.devRef main_arg6)

/-- The new weight of one element as the reference computes it. -/
def wrS (lr b1 b2 w g m v : EReal) : EReal :=
  w * (1 - lr * Ideal.ofBits FTy.f32 1036831949#32)
    - Ideal.div lr b1 * Ideal.div (mnS g m) (Ideal.div (Ideal.sqrt (vnS g v)) (Ideal.sqrt b2) + Ideal.ofBits FTy.f32 841731191#32)

/-- The new weight of layer `b`, row `r` and column `j`. -/
def RW (c : Dev nD) (b : Fin 3) (r : Fin 2560) (j : Fin 6144) : EReal :=
  wrS (BLR m c (ix1 b)) (bcS 1063675494#32 (BST m c (ix1 b))) (bcS 1064514355#32 (BST m c (ix1 b)))
    (BW m c (ix3 b r j)) (BG m c (ix3 b r j)) (BM m c (ix3 b r j)) (BV m c (ix3 b r j))

/-- The new first moments. -/
def TM (c : Dev nD) : FVec Ideal S3x2560x6144 .f32 :=
  addf (mulf (broadcastInDim S3x2560x6144 ![] bcast_S_S3x2560x6144 (constant S_ FTy.f32 1063675494#32)) (BM m c))
    (mulf (broadcastInDim S3x2560x6144 ![] bcast_S_S3x2560x6144 (constant S_ FTy.f32 1036831949#32)) (extf FTy.f32 (BG m c) bitsLt_bf16_f32))

/-- The new second moments. -/
def TV (c : Dev nD) : FVec Ideal S3x2560x6144 .f32 :=
  addf (mulf (broadcastInDim S3x2560x6144 ![] bcast_S_S3x2560x6144 (constant S_ FTy.f32 1064514355#32)) (BV m c))
    (mulf (mulf (broadcastInDim S3x2560x6144 ![] bcast_S_S3x2560x6144 (constant S_ FTy.f32 1028443341#32)) (extf FTy.f32 (BG m c) bitsLt_bf16_f32))
      (extf FTy.f32 (BG m c) bitsLt_bf16_f32))

/-- A number of every layer at every element of the layer. -/
def TB (x : FVec Ideal S3 .f32) : FVec Ideal S3x2560x6144 .f32 :=
  broadcastInDim S3x2560x6144 ![0, 1, 2] bcast_S3x1x1_S3x2560x6144_0_1_2 (broadcastInDim S3x1x1 ![0] bcast_S3_S3x1x1_0 x)

/-- The bias correction of every layer, from the decay constant. -/
def TC (β : BitVec 32) (c : Dev nD) : FVec Ideal S3 .f32 :=
  subf (broadcastInDim S3 ![] bcast_S_S3 (constant S_ FTy.f32 1065353216#32))
    (Host.powf (broadcastInDim S3 ![] bcast_S_S3 (constant S_ FTy.f32 β)) (sitofp FTy.f32 (BST m c)))

/-- The new weights. -/
def TW (c : Dev nD) : FVec Ideal S3x2560x6144 .f32 :=
  subf
    (mulf (BW m c) (TB (subf (broadcastInDim S3 ![] bcast_S_S3 (constant S_ FTy.f32 1065353216#32))
      (mulf (BLR m c) (broadcastInDim S3 ![] bcast_S_S3 (constant S_ FTy.f32 1036831949#32))))))
    (mulf (TB (Host.divf (BLR m c) (TC m 1063675494#32 c)))
      (Host.divf (TM m c)
        (addf (Host.divf (Host.sqrt (TV m c)) (TB (Host.sqrt (TC m 1064514355#32 c))))
          (broadcastInDim S3x2560x6144 ![] bcast_S_S3x2560x6144 (constant S_ FTy.f32 841731191#32)))))

/-- The maxima of the absolute values of the new weights. -/
def TX (c : Dev nD) : FVec Ideal S3 .f32 :=
  Host.reduce FloatOps.maximumf (Host.absf (TW m c)) (constant S_ FTy.f32 4286578688#32) reducesTo_S3x2560x6144_S3_d1_2 h_S_

/-- The new first moment of one element. -/
theorem TM_at (c : Dev nD) (b : Fin 3) (r : Fin 2560) (j : Fin 6144) : TM m c (ix3 b r j) = mnS (BG m c (ix3 b r j)) (BM m c (ix3 b r j)) := by
  unfold TM
  pointwise
  rfl

/-- The new second moment of one element. -/
theorem TV_at (c : Dev nD) (b : Fin 3) (r : Fin 2560) (j : Fin 6144) : TV m c (ix3 b r j) = vnS (BG m c (ix3 b r j)) (BV m c (ix3 b r j)) := by
  unfold TV
  pointwise
  rfl

/-- The new weight of one element. -/
theorem TW_at (c : Dev nD) (b : Fin 3) (r : Fin 2560) (j : Fin 6144) : TW m c (ix3 b r j) = RW m c b r j := by
  unfold TW TB TC
  pointwise
  simp only [TM_at, TV_at]
  rfl

/-- The scaled and clipped weights, from the new weights. -/
def RY (w : FVec Ideal S3x2560x6144 .f32) (e : FVec Ideal S3 .f32) : FVec Ideal S3x2560x6144 .f32 :=
  minimumf (broadcastInDim S3x2560x6144 ![] bcast_S_S3x2560x6144 (constant S_ FTy.f32 1138753536#32))
    (maximumf (broadcastInDim S3x2560x6144 ![] bcast_S_S3x2560x6144 (constant S_ FTy.f32 3286237184#32))
      (mulf w (broadcastInDim S3x2560x6144 ![0, 1, 2] bcast_S3x1x1_S3x2560x6144_0_1_2 (broadcastInDim S3x1x1 ![0] bcast_S3_S3x1x1_0 (RP (negf e))))))

/-- The scaled and clipped weight at one element. -/
theorem RY_at (w : FVec Ideal S3x2560x6144 .f32) (e : FVec Ideal S3 .f32) (b : Fin 3) (r : Fin 2560) (j : Fin 6144) :
    RY w e (ix3 b r j) = cdS (Ideal.pow (Ideal.ofBits .f32 1073741824#32) (-(e (ix1 b)))) (w (ix3 b r j)) := by
  unfold RY
  pointwise
  simp only [RP_at]
  rfl

/-- The codes. -/
def TY (c : Dev nD) : FVec Ideal S3x2560x6144 .fp8e4m3 := Host.convertf FTy.fp8e4m3 (RY (TW m c) (RE (BPV m c)))

/-- The transposed codes. -/
def TZ (c : Dev nD) : FVec Ideal S3x6144x2560 .fp8e4m3 :=
  transpose S3x6144x2560 [0, 2, 1] (TY m c) transposes_S3x2560x6144_S3x6144x2560_0_2_1

/-- The code of one element: the scaled and clipped weight, as a cast is the identity here. -/
theorem TY_at (c : Dev nD) (b : Fin 3) (r : Fin 2560) (j : Fin 6144) :
    TY m c (ix3 b r j) = cdS (Ideal.pow (Ideal.ofBits .f32 1073741824#32) (-(rexp (BPV m c (ix1 b))))) (RW m c b r j) := by
  unfold TY
  pointwise
  rw [RY_at, RE_at, TW_at]

/-- The transposed code of one element. -/
theorem TZ_at (c : Dev nD) (b : Fin 3) (r : Fin 2560) (j : Fin 6144) : TZ m c (ix3 b j r) = TY m c (ix3 b r j) := by
  unfold TZ
  pointwise

/-- The maxima by their upper bounds. -/
theorem max_le (x : FVec Ideal S3x2560x6144 .f32) (b : Fin 3) (z : EReal) : Host.reduce FloatOps.maximumf (Host.absf x)
    (constant S_ FTy.f32 0xFF800000#32) reducesTo_S3x2560x6144_S3_d1_2 h_S_ (ix1 b) ≤ z ↔ ∀ (r : Fin 2560) (j : Fin 6144), abS (x (ix3 b r j)) ≤ z := by
  pointwise
  rw [Cert.KernelIdeal.Val.fold_max_le, Cert.KernelIdeal.Val.ofBits_ninf]
  simp only [Finset.mem_univ, forall_const, Prod.forall, bot_le, true_and]
  rfl

end Cert.ReferenceIdeal.Val

end
-- ==== Proof.Equation.lean ====
/- The kernel's and the reference's scalar functions are equal: the new weight, where the step is not zero. -/
module

public import proofs.«01_k».proof.Proof.Table
public import proofs.«01_k».proof.Proof.RefArrays
public import Idealize.ShloMosaic.Lib.Claim

@[expose] public section

set_option maxRecDepth 16384
set_option maxHeartbeats 2000000

noncomputable section

namespace Cert.Equation

open Cert.KernelIdeal.Val (mnS vnS wnS abS cdS bcS)
open Idealize.ShloMosaic

/-- Dividing by a nonzero number is multiplying by one over it. -/
theorem mul_div_one (x y : EReal) (hy : y ≠ 0) : x * Ideal.div 1 y = Ideal.div x y := by
  unfold Ideal.div
  rw [if_neg hy, if_neg hy, one_mul]

/-- The second decay constant is between zero and one. -/
theorem beta2 : ∃ β : ℝ, 0 < β ∧ β < 1 ∧ Ideal.ofBits .f32 1064514355#32 = (β : EReal) := by
  refine ⟨15938355 * (2 : ℝ) ^ (-24 : ℤ), by positivity, by norm_num, ?_⟩
  simp [Ideal.ofBits, Ideal.ieee, -EReal.coe_mul]

/-- The root of the second bias correction is not zero when the step is not zero: the correction is positive for a positive
    step, and negative, its root minus infinity, for a negative one. -/
theorem sqrt_bc_ne (t : BitVec 32) (ht : t ≠ 0#32) : Ideal.sqrt (bcS 1064514355#32 t) ≠ 0 := by
  obtain ⟨β, h0, h1, hβ⟩ := beta2
  have hz : t.toInt ≠ 0 := fun h => ht (BitVec.toInt_inj.1 (by rw [h]; rfl))
  have hv : bcS 1064514355#32 t = ((1 - β ^ t.toInt : ℝ) : EReal) := by
    unfold bcS
    rw [hβ]
    show 1 - ((Real.rpow β (t.toInt : ℝ) : ℝ) : EReal) = _
    rw [show Real.rpow β (t.toInt : ℝ) = β ^ t.toInt from Real.rpow_intCast β t.toInt]
    push_cast
    rfl
  have hne : (1 - β ^ t.toInt : ℝ) ≠ 0 := by
    intro h
    have hp : β ^ t.toInt = 1 := by linarith
    rcases lt_or_gt_of_ne hz with hlt | hgt
    · exact absurd hp (one_lt_zpow_of_neg₀ h0 h1 hlt).ne'
    · exact absurd hp (zpow_lt_one₀ h0 h1 hgt).ne
  rw [hv]
  generalize (1 - β ^ t.toInt : ℝ) = x at hne
  show (if x < 0 then ⊥ else ((Real.sqrt x : ℝ) : EReal)) ≠ 0
  split
  · exact EReal.bot_ne_zero
  · rename_i hx
    rw [Ne, EReal.coe_eq_zero]
    exact (Real.sqrt_pos.2 (lt_of_le_of_ne (not_lt.1 hx) hne.symm)).ne'

/-- THE NEW WEIGHT of the kernel is the reference's. -/
theorem weight_eq (lr : EReal) (t : BitVec 32) (ht : t ≠ 0#32) (w g m v : EReal) :
    wnS (1 - lr * Ideal.ofBits FTy.f32 1036831949#32) (Ideal.div lr (bcS 1063675494#32 t)) (Ideal.div 1 (Ideal.sqrt (bcS 1064514355#32 t))) w g m v
      = Cert.ReferenceIdeal.Val.wrS lr (bcS 1063675494#32 t) (bcS 1064514355#32 t) w g m v := by
  unfold wnS Cert.ReferenceIdeal.Val.wrS
  rw [mul_div_one _ _ (sqrt_bc_ne t ht)]

end Cert.Equation

end
-- ==== Proof.RefRun.lean ====
/- What the run of the reference at the extended reals leaves in memory. -/
module

public import proofs.«01_k».proof.Proof.RefArrays
public import Idealize.ShloMosaic.Lib.Quiescent

@[expose] public section

set_option maxRecDepth 16384
set_option maxHeartbeats 4000000

noncomputable section

namespace Cert.ReferenceIdeal.Val
open Cert.ReferenceIdeal Cert.ReferenceIdeal.Gen
open Idealize.SL.Sem
open Idealize.ShloMosaic Idealize.ShloMosaic.TcCoe Idealize.ShloMosaic.Tactic
variable (m : (ℓ : Loc nD τ sig) → Buf (Elt Ideal) ℓ)

/-- What a run of the reference leaves: the seven results, and the arguments as they were. -/
def Post (c : Dev nD) (r : PUnit × MemSt nD τ sig (Elt Ideal)) : Prop :=
  r.2.mem ((c.tc : Thread nD τ).loc main_v40) = TW m c
  ∧ r.2.mem ((c.tc : Thread nD τ).loc main_v5) = TM m c
  ∧ r.2.mem ((c.tc : Thread nD τ).loc main_v11) = TV m c
  ∧ r.2.mem ((c.tc : Thread nD τ).loc main_v42) = TX m c
  ∧ r.2.mem ((c.tc : Thread nD τ).loc main_v72) = TY m c
  ∧ r.2.mem ((c.tc : Thread nD τ).loc main_v64) = RP (RE (BPV m c))
  ∧ r.2.mem ((c.tc : Thread nD τ).loc main_v73) = TZ m c
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

/-- The run of the reference. -/
theorem run_post (ρ : Dev nD → PrngReg) : θ_run defs (onTc (τ := τ) (main (F := Ideal))) ⟨m, fun _ => 0, ρ⟩ (fun r => ∀ c : Dev nD, Post m c r) := by
  unfold Post
  hlo_run
  all_goals rfl

/-- The frame: the arguments end as launched and every counter ends at zero. -/
theorem frame (ρ : Dev nD → PrngReg) : θ_run defs (onTc (τ := τ) (main (F := Ideal))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2.2.2.2.2.2.2, sem_eq_zero_of_no_sems rfl r.2⟩) (run_post m ρ)

end Cert.ReferenceIdeal.Val
end
-- ==== Proof.Final.lean ====
/- The arrays the kernel leaves are those the reference leaves, at the extended reals. -/
module

public import proofs.«01_k».proof.Proof.Arrays
public import proofs.«01_k».proof.Proof.Equation
public import proofs.«01_k».proof.Proof.RefRun

@[expose] public section

set_option maxRecDepth 16384
set_option maxHeartbeats 2000000

noncomputable section

namespace Cert.Equation

open Cert.KernelIdeal.Val
open Cert.ReferenceIdeal.Val (BW BG BM BV BLR BST BPV RW RE RP TW TM TV TX TY TZ TW_at TM_at TV_at TY_at TZ_at RE_at RP_at)
open Idealize.ShloMosaic

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two launches agree on the arguments of a device, and no layer's step is zero. -/
structure Agree (c : Dev Cert.KernelIdeal.nD) : Prop where
  w : BW m' c = AW m c
  g : BG m' c = AG m c
  mm : BM m' c = AM m c
  v : BV m' c = AV m c
  lr : BLR m' c = ALR m c
  st : BST m' c = AST m c
  pv : BPV m' c = APV m c
  step : ∀ b : Fin 3, AST m c (ix1 b) ≠ 0#32

variable {m m'} {c : Dev Cert.KernelIdeal.nD}

/-- The new weights. -/
theorem weights (h : Agree m m' c) (b : Fin 3) (r : Fin 2560) (j : Fin 6144) : WN m c b r j = RW m' c b r j := by
  unfold WN RW
  rw [ST_0, ST_1, ST_2, weight_eq _ _ (h.step b), h.w, h.g, h.mm, h.v, h.lr, h.st]

/-- The first result: the new weights. -/
theorem res0 (h : Agree m m' c) : G5 m c = TW m' c := by
  funext i
  have e := TW_at m' c (i 0) (i 1) (i 2)
  have e' := congrArg (TW m' c) (ix3_eta i)
  exact (weights h (i 0) (i 1) (i 2)).trans (e.symm.trans e')

/-- The second result: the new first moments. -/
theorem res1 (h : Agree m m' c) : G6 m c = TM m' c := by
  funext i
  have e := TM_at m' c (i 0) (i 1) (i 2)
  have e' := congrArg (TM m' c) (ix3_eta i)
  have e2 : G6 m c i = mnS (BG m' c (ix3 (i 0) (i 1) (i 2))) (BM m' c (ix3 (i 0) (i 1) (i 2))) := by
    rw [h.g, h.mm]
    exact congrArg (fun k => mnS (AG m c k) (AM m c k)) (ix3_eta i).symm
  exact e2.trans (e.symm.trans e')

/-- The third result: the new second moments. -/
theorem res2 (h : Agree m m' c) : G7 m c = TV m' c := by
  funext i
  have e := TV_at m' c (i 0) (i 1) (i 2)
  have e' := congrArg (TV m' c) (ix3_eta i)
  have e2 : G7 m c i = vnS (BG m' c (ix3 (i 0) (i 1) (i 2))) (BV m' c (ix3 (i 0) (i 1) (i 2))) := by
    rw [h.g, h.v]
    exact congrArg (fun k => vnS (AG m c k) (AV m c k)) (ix3_eta i).symm
  exact e2.trans (e.symm.trans e')

/-- An absolute value is not negative. -/
theorem abS_nonneg (x : EReal) : 0 ≤ abS x := by
  unfold abS
  rcases le_total 0 x with h | h
  · exact le_max_of_le_left h
  · exact le_max_of_le_right (EReal.neg_nonneg.2 h)

/-- The reference's maxima by their upper bounds. -/
theorem rmx_le (m' : (ℓ : Loc Cert.ReferenceIdeal.nD Cert.ReferenceIdeal.τ Cert.ReferenceIdeal.sig) → Buf (Elt Ideal) ℓ) (c : Dev Cert.ReferenceIdeal.nD)
    (b : Fin 3) (z : EReal) : TX m' c (ix1 b) ≤ z ↔ ∀ (r : Fin 2560) (j : Fin 6144), abS (RW m' c b r j) ≤ z := by
  unfold TX
  refine (Cert.ReferenceIdeal.Val.max_le _ b z).trans ?_
  exact forall_congr' fun r => forall_congr' fun j => iff_of_eq (congrArg (fun x : EReal => abS x ≤ z) (TW_at m' c b r j))

/-- The fourth result: the maxima of the absolute values. The kernel starts from zero and the reference from minus
    infinity; as there is at least one absolute value and none is negative, it is the same maximum. -/
theorem res3 (h : Agree m m' c) (X : FVec Ideal Cert.KernelIdeal.S3 .f32) (hX : MaxQ m c 59 X) :
    X = TX m' c := by
  have key : ∀ b : Fin 3, X (ix1 b) = TX m' c (ix1 b) := by
    intro b
    have hz : ∀ z : EReal, X (ix1 b) ≤ z ↔ TX m' c (ix1 b) ≤ z := by
      intro z
      refine (hX b (by have := b.isLt; omega) z).trans (Iff.trans ?_ (rmx_le m' c b z).symm)
      simp only [weights h]
      exact ⟨fun a => a.2, fun a => ⟨(abS_nonneg _).trans (a 0 0), a⟩⟩
    exact le_antisymm ((hz _).2 le_rfl) ((hz _).1 le_rfl)
  funext i
  exact (congrArg X (ix1_eta i)).symm.trans ((key (i 0)).trans (congrArg (TX m' c) (ix1_eta i)))

/-- The code of one element. -/
theorem codes (h : Agree m m' c) (b : Fin 3) (r : Fin 2560) (j : Fin 6144) :
    cdS (ST m c (ix2 3 b)) (WN m c b r j) = TY m' c (ix3 b r j) := by
  rw [TY_at, ← weights h, h.pv, ST_3, inv_eq]

/-- The fifth result: the codes. -/
theorem res4 (h : Agree m m' c) : G9 m c = TY m' c := by
  funext i
  exact (codes h (i 0) (i 1) (i 2)).trans (congrArg (TY m' c) (ix3_eta i))

/-- The sixth result: the scales. -/
theorem res5 (h : Agree m m' c) : Cert.KernelIdeal.Gen.V m c Cert.KernelIdeal.main_v42 = RP (RE (BPV m' c)) := by
  rw [V_scale]
  have key : ∀ b : Fin 3, KP (KE (APV m c)) (ix1 b) = RP (RE (BPV m' c)) (ix1 b) := by
    intro b
    rw [KP_at, KE_at, RP_at, RE_at, h.pv, scale_eq]
  funext i
  exact (congrArg (KP (KE (APV m c))) (ix1_eta i)).symm.trans ((key (i 0)).trans (congrArg (RP (RE (BPV m' c))) (ix1_eta i)))

/-- The seventh result: the transposed codes. -/
theorem res6 (h : Agree m m' c) : G10 m c = TZ m' c := by
  funext i
  exact (codes h (i 0) (i 2) (i 1)).trans ((TZ_at m' c (i 0) (i 2) (i 1)).symm.trans (congrArg (TZ m' c) (ix3_eta i)))

end Cert.Equation

end
-- ==== Proof.lean ====
module

public import proofs.«01_k».proof.Defs
public import proofs.«01_k».proof.Proof.KernelFrame
public import proofs.«01_k».proof.Proof.Arrays
public import proofs.«01_k».proof.Proof.Final
public import Idealize.ShloMosaic.Lib.Claim
public import Idealize.ShloMosaic.Lib.ReduceAll

@[expose] public section

set_option maxRecDepth 16384

noncomputable section

namespace Cert.Proof

open Idealize.ShloMosaic Idealize.SL.Sem

/-- The side conditions of the precondition. -/
theorem preFacts : Cert.Pre_step_nonzero.Facts where
  bcast_S_S3 := by decide
  reducesTo_S3_S_d0 := by decide
  h_S_ := by decide

/-- The precondition says that no layer's step is zero. -/
theorem step_ne [Cert.Pre_step_nonzero.Facts] (a0 : FVec Ideal Cert.Pre_step_nonzero.S3x2560x6144 .f32) (a1 : FVec Ideal Cert.Pre_step_nonzero.S3x2560x6144 .bf16)
    (a2 a3 : FVec Ideal Cert.Pre_step_nonzero.S3x2560x6144 .f32) (a4 : FVec Ideal Cert.Pre_step_nonzero.S3 .f32) (a5 : IVec Cert.Pre_step_nonzero.S3 32)
    (a6 : FVec Ideal Cert.Pre_step_nonzero.S3 .f32)
    (h : Cert.Pre_step_nonzero.fn (F := Ideal) a0 a1 a2 a3 a4 a5 a6 = fun _ => 1#1) (i : Cert.Pre_step_nonzero.S3.Idx) : a5 i ≠ 0#32 := by
  have e := congrFun h (fun a => a.elim0)
  exact IntOp.cmpi_ne.1 (Host.reduce_andi_all _ _ _ _ _ e i)

/-- From agreement of the launches and the precondition, the agreement the equations take. -/
theorem agree [Cert.Pre_step_nonzero.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_step_nonzero m) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.Equation.Agree m m' c where
  w := h.1.trans (Cert.KernelIdeal.Gen.V_main_arg0 m c).symm
  g := h.2.1.trans (Cert.KernelIdeal.Gen.V_main_arg1 m c).symm
  mm := h.2.2.1.trans (Cert.KernelIdeal.Gen.V_main_arg2 m c).symm
  v := h.2.2.2.1.trans (Cert.KernelIdeal.Gen.V_main_arg3 m c).symm
  lr := h.2.2.2.2.1
  st := h.2.2.2.2.2.1
  pv := h.2.2.2.2.2.2
  step b := step_ne _ _ _ _ _ _ _ (hp c) (ix1 b)

/-- The kernel computes the reference's seven results at the extended reals. -/
theorem algebraic [Cert.Pre_step_nonzero.Facts] : Cert.algebraic_KernelIdeal_ReferenceIdeal_pre_step_nonzero := by
  intro m g m' g' hp hm
  have ha := fun c => agree m m' hp c (hm c)
  refine ⟨Cert.ReferenceIdeal.Val.TW m', Cert.ReferenceIdeal.Val.TM m', Cert.ReferenceIdeal.Val.TV m', Cert.ReferenceIdeal.Val.TX m',
    Cert.ReferenceIdeal.Val.TY m', fun c => Cert.ReferenceIdeal.Val.RP (Cert.ReferenceIdeal.Val.RE (Cert.ReferenceIdeal.Val.BPV m' c)),
    Cert.ReferenceIdeal.Val.TZ m', ?_, Cert.ReferenceIdeal.Val.run_post m' g'⟩
  refine (θ_run _ _ _).mono ?_ (θ_run_and (Cert.KernelIdeal.Val.run_post m g) (Cert.KernelIdeal.Val.unchanged m g))
  intro r h c
  obtain ⟨p0, p1, p2, p3, p4, p6, p5⟩ := h.1 c
  exact ⟨p0.trans (Cert.Equation.res0 (ha c)), p1.trans (Cert.Equation.res1 (ha c)), p2.trans (Cert.Equation.res2 (ha c)),
    Cert.Equation.res3 (ha c) _ p3, p4.trans (Cert.Equation.res4 (ha c)), p5.trans (Cert.Equation.res5 (ha c)),
    p6.trans (Cert.Equation.res6 (ha c)), h.2 c⟩

/-- Everything claimed. -/
theorem claim : Cert.Claim :=
  ⟨Cert.Kernel.Gen.facts, Cert.KernelIdeal.Gen.facts, Cert.ReferenceIdeal.Gen.facts, preFacts,
    fun m ρ _ => Cert.Kernel.Run.frame m ρ, fun m ρ _ => Cert.KernelIdeal.Val.frame m ρ, fun m ρ _ => Cert.KernelIdeal.Val.frame m ρ,
    fun m ρ _ => Cert.ReferenceIdeal.Val.frame m ρ, fun m ρ _ => Cert.ReferenceIdeal.Val.frame m ρ, trivial,
    @algebraic preFacts⟩

end Cert.Proof

end
